-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_bias_finite_scores [hPre_zero_bias_finite_scores : Cert.Pre_zero_bias_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_zero_bias_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_bias_finite_scores [hPre_zero_bias_finite_scores : Cert.Pre_zero_bias_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_bias_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_zero_bias_finite_scores [hKernelIdeal : Cert.KernelIdeal.Facts] [hPre_zero_bias_finite_scores : Cert.Pre_zero_bias_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_bias_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_zero_bias_finite_scores [hReferenceIdeal : Cert.ReferenceIdeal.Facts] [hPre_zero_bias_finite_scores : Cert.Pre_zero_bias_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_bias_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_zero_bias_finite_scores [hKernelIdeal : Cert.KernelIdeal.Facts] [hReferenceIdeal : Cert.ReferenceIdeal.Facts] [hPre_zero_bias_finite_scores : Cert.Pre_zero_bias_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_bias_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_cst_26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_zero_bias_finite_scores : Cert.Pre_zero_bias_finite_scores.Facts),
    quiescent_Kernel (hKernel := hKernel)
    ∧ quiescent_KernelIdeal (hKernelIdeal := hKernelIdeal)
    ∧ quiescent_KernelIdeal_pre_zero_bias_finite_scores (hKernelIdeal := hKernelIdeal) (hPre_zero_bias_finite_scores := hPre_zero_bias_finite_scores)
    ∧ quiescent_ReferenceIdeal (hReferenceIdeal := hReferenceIdeal)
    ∧ quiescent_ReferenceIdeal_pre_zero_bias_finite_scores (hReferenceIdeal := hReferenceIdeal) (hPre_zero_bias_finite_scores := hPre_zero_bias_finite_scores)
    ∧ preserves_Kernel_KernelIdeal
    ∧ algebraic_KernelIdeal_ReferenceIdeal_pre_zero_bias_finite_scores (hKernelIdeal := hKernelIdeal) (hReferenceIdeal := hReferenceIdeal) (hPre_zero_bias_finite_scores := hPre_zero_bias_finite_scores)
-- ==== Pre_zero_bias_finite_scores.lean ====
abbrev S2x2048x768 : Shape := ⟨3, ![2, 2048, 768]⟩
abbrev S8x768 : Shape := ⟨2, ![8, 768]⟩
abbrev S8x2048x768 : Shape := ⟨3, ![8, 2048, 768]⟩
abbrev S8x2048 : Shape := ⟨2, ![8, 2048]⟩
abbrev S8x768x1024 : Shape := ⟨3, ![8, 768, 1024]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2x2048x768 .f32) (main_arg1 : FVec F S8x768 .f32) (main_arg2 : FVec F S8x2048x768 .f32) (main_arg3 : FVec F S8x2048 .f32) (main_arg4 : FVec F S8x768x1024 .f32) (main_arg5 : FVec F S8x768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_cst_2 : FVec F S_ .f32 := constant S_ .f32 0x00000000#32
  let main_v9 : FVec F S8x2048 .f32 := broadcastInDim S8x2048 ![] bcast_S_S8x2048 main_cst_2
  let main_v10 : IVec S8x2048 1 := cmpf .oeq main_arg3 main_v9
  let main_c_3 : IVec S_ 1 := constantI S_ 1 1#1
  let main_v11 : IVec S_ 1 := (fun x v => Host.reduce IntOp.andi x v reducesTo_S8x2048_S_d0_1 h_S_) main_v10 main_c_3
  let main_v12 : IVec S_ 1 := andi main_v8 main_v11
  let main_cst_4 : FVec F S_ .f32 := constant S_ .f32 0x00000000#32
  let main_v13 : FVec F S8x768 .f32 := broadcastInDim S8x768 ![] bcast_S_S8x768 main_cst_4
  let main_v14 : IVec S8x768 1 := cmpf .oeq main_arg5 main_v13
  let main_c_5 : IVec S_ 1 := constantI S_ 1 1#1
  let main_v15 : IVec S_ 1 := (fun x v => Host.reduce IntOp.andi x v reducesTo_S8x768_S_d0_1 h_S_) main_v14 main_c_5
  fn_part1 (F := F) main_v12 main_v15
-- ==== Kernel.lean ====
abbrev S2x2048x768 : Shape := ⟨3, ![2, 2048, 768]⟩
abbrev S8x768 : Shape := ⟨2, ![8, 768]⟩
abbrev S8x2048x768 : Shape := ⟨3, ![8, 2048, 768]⟩
abbrev S8x2048 : Shape := ⟨2, ![8, 2048]⟩
abbrev S8x768x1024 : Shape := ⟨3, ![8, 768, 1024]⟩
abbrev S4096x768 : Shape := ⟨2, ![4096, 768]⟩
abbrev S1024x768 : Shape := ⟨2, ![1024, 768]⟩
abbrev S1x2048x768 : Shape := ⟨3, ![1, 2048, 768]⟩
abbrev S1x768x1024 : Shape := ⟨3, ![1, 768, 1024]⟩
abbrev S4096x8 : Shape := ⟨2, ![4096, 8]⟩
abbrev S1024x8 : Shape := ⟨2, ![1024, 8]⟩
abbrev S1024 : Shape := ⟨1, ![1024]⟩
abbrev S1024x1 : Shape := ⟨2, ![1024, 1]⟩
abbrev S2048x768 : Shape := ⟨2, ![2048, 768]⟩
abbrev S1024x2048 : Shape := ⟨2, ![1024, 2048]⟩
abbrev S1024x1024 : Shape := ⟨2, ![1024, 1024]⟩
abbrev S768x1024 : Shape := ⟨2, ![768, 1024]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S2x2048x768, .f32⟩
  | .hbm, ⟨1, _⟩ => ⟨S8x768, .f32⟩
  | .hbm, ⟨2, _⟩ => ⟨S8x2048x768, .f32⟩
  | .hbm, ⟨3, _⟩ => ⟨S8x2048, .f32⟩
  | .hbm, ⟨4, _⟩ => ⟨S8x768x1024, .f32⟩
  | .hbm, ⟨5, _⟩ => ⟨S8x768, .f32⟩
  | .hbm, ⟨6, _⟩ => ⟨S4096x768, .f32⟩
  | .hbm, ⟨7, _⟩ => ⟨S4096x768, .f32⟩
  | .hbm, ⟨8, _⟩ => ⟨S2x2048x768, .f32⟩
  | .hbm, ⟨9, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S8x768, .f32⟩
  | .local _ .vmem, ⟨3, _⟩ => ⟨S1x2048x768, .f32⟩
  | .local _ .vmem, ⟨4, _⟩ => ⟨S1x2048x768, .f32⟩
  | .local _ .vmem, ⟨5, _⟩ => ⟨S1x768x1024, .f32⟩
  | .local _ .vmem, ⟨6, _⟩ => ⟨S1x768x1024, .f32⟩
  | .local _ .vmem, ⟨7, _⟩ => ⟨S4096x768, .f32⟩
  | .local _ .vmem, ⟨8, _⟩ => ⟨S4096x8, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg1 : BitVec 32 := BitVec.ofNat 32 (i 1).val
  let c1024_i32 : BitVec 32 := 1024#32
  let v2 : BitVec 32 := Scalar.muli arg1 c1024_i32
  let v77 : Index := Scalar.indexCast v2
  let c0_29 : Index := 0#32
  ![v77.toNat, 0]
def k0_off2 (i : grid0.Coords) : Fin 2 → Nat :=
  let arg1 : BitVec 32 := BitVec.ofNat 32 (i 1).val
  let c1024_i32 : BitVec 32 := 1024#32
  let v2 : BitVec 32 := Scalar.muli arg1 c1024_i32
  let v6 : Index := Scalar.indexCast v2
  let c0_2 : Index := 0#32
  ![v6.toNat, 0]
def k0_cond2 (i : grid0.Coords) : BitVec 1 :=
  let arg0 : BitVec 32 := BitVec.ofNat 32 (i 0).val
  let c0_i32_12 : BitVec 32 := 0#32
  let v28 : BitVec 1 := Scalar.cmpi .eq arg0 c0_i32_12
  let v29 : BitVec 32 := Scalar.extui v28
  let c0_i32_13 : BitVec 32 := 0#32
  let v30 : BitVec 1 := Scalar.cmpi .ne v29 c0_i32_13
  v30

def k0_off3 (i : grid0.Coords) : Fin 2 → Nat :=
  let arg1 : BitVec 32 := BitVec.ofNat 32 (i 1).val
  let c1024_i32 : BitVec 32 := 1024#32
  let v2 : BitVec 32 := Scalar.muli arg1 c1024_i32
  let v34 : Index := Scalar.indexCast v2
  let c0_16 : Index := 0#32
  ![v34.toNat, 0]
def k0_cond3 (i : grid0.Coords) : BitVec 1 :=
  let arg0 : BitVec 32 := BitVec.ofNat 32 (i 0).val
  let c0_i32_14 : BitVec 32 := 0#32
  let v31 : BitVec 1 := Scalar.cmpi .ne arg0 c0_i32_14
  let v32 : BitVec 32 := Scalar.extui v31
  let c0_i32_15 : BitVec 32 := 0#32
  let v33 : BitVec 1 := Scalar.cmpi .ne v32 c0_i32_15
  v33

def k0_off4 (i : grid0.Coords) : Fin 2 → Nat :=
  let arg1 : BitVec 32 := BitVec.ofNat 32 (i 1).val
  let c1024_i32 : BitVec 32 := 1024#32
  let v2 : BitVec 32 := Scalar.muli arg1 c1024_i32
  let v34 : Index := Scalar.indexCast v2
  let c0_16 : Index := 0#32
  ![v34.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4096x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S2x2048x768 : Shape := ⟨3, ![2, 2048, 768]⟩
abbrev S8x768 : Shape := ⟨2, ![8, 768]⟩
abbrev S8x2048x768 : Shape := ⟨3, ![8, 2048, 768]⟩
abbrev S8x2048 : Shape := ⟨2, ![8, 2048]⟩
abbrev S8x768x1024 : Shape := ⟨3, ![8, 768, 1024]⟩
abbrev S4096x768 : Shape := ⟨2, ![4096, 768]⟩
abbrev S768x8 : Shape := ⟨2, ![768, 8]⟩
abbrev S4096x8 : Shape := ⟨2, ![4096, 8]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S1x2048x768 : Shape := ⟨3, ![1, 2048, 768]⟩
abbrev S2048x768 : Shape := ⟨2, ![2048, 768]⟩
abbrev S768x2048 : Shape := ⟨2, ![768, 2048]⟩
abbrev S4096x2048 : Shape := ⟨2, ![4096, 2048]⟩
abbrev S1x2048 : Shape := ⟨2, ![1, 2048]⟩
abbrev S2048 : Shape := ⟨1, ![2048]⟩
abbrev S4096x1024 : Shape := ⟨2, ![4096, 1024]⟩
abbrev S1x768x1024 : Shape := ⟨3, ![1, 768, 1024]⟩
abbrev S768x1024 : Shape := ⟨2, ![768, 1024]⟩
abbrev S1024x768 : Shape := ⟨2, ![1024, 768]⟩
abbrev S1x768 : Shape := ⟨2, ![1, 768]⟩
abbrev S768 : Shape := ⟨1, ![768]⟩

abbrev nBuf : Space → Nat
  | .hbm => 373
  | .vmem => 0
  | .smem => 0
  | _ => 0

abbrev hbmTy0_0 (i : Nat) : BufTy := match i % 128 with
  | 0 => ⟨S2x2048x768, .f32⟩
  | 1 => ⟨S8x768, .f32⟩
  | 2 => ⟨S8x2048x768, .f32⟩
  | 3 => ⟨S8x2048, .f32⟩
  | 4 => ⟨S8x768x1024, .f32⟩
  | 5 => ⟨S8x768, .f32⟩
  | 6 => ⟨S4096x768, .f32⟩
  | 7 => ⟨S768x8, .f32⟩
  | 8 => ⟨S4096x8, .f32⟩
  | 9 => ⟨S4096x2, .f32⟩
  | 10 => ⟨S4096x2, .i32⟩
  | 11 => ⟨S_, .f32⟩
  | 12 => ⟨S4096, .f32⟩
  | 13 => ⟨S_, .f32⟩
  | 14 => ⟨S4096, .f32⟩
  | 15 => ⟨S4096, .f32⟩
  | 16 => ⟨S4096x1, .f32⟩
  | 17 => ⟨S4096x2, .f32⟩
  | 18 => ⟨S4096x2, .f32⟩
  | 19 => ⟨S4096x2, .f32⟩
  | 20 => ⟨S_, .f32⟩
  | 21 => ⟨S4096, .f32⟩
  | 22 => ⟨S4096x1, .f32⟩
  | 23 => ⟨S4096x2, .f32⟩
  | 24 => ⟨S4096x2, .f32⟩
  | 25 => ⟨S_, .f32⟩
  | 26 => ⟨S4096x768, .f32⟩
  | 27 => ⟨S_, .i32⟩
  | 28 => ⟨S4096x2, .i32⟩
  | 29 => ⟨S4096x2, .i1⟩
  | 30 => ⟨S_, .f32⟩
  | 31 => ⟨S_, .f32⟩
  | 32 => ⟨S4096x2, .f32⟩
  | 33 => ⟨S4096x2, .f32⟩
  | 34 => ⟨S_, .f32⟩
  | 35 => ⟨S4096, .f32⟩
  | 36 => ⟨S1x2048x768, .f32⟩
  | 37 => ⟨S2048x768, .f32⟩
  | 38 => ⟨S768x2048, .f32⟩
  | 39 => ⟨S4096x2048, .f32⟩
  | 40 => ⟨S1x2048, .f32⟩
  | 41 => ⟨S2048, .f32⟩
  | 42 => ⟨S1x2048, .f32⟩
  | 43 => ⟨S4096x2048, .f32⟩
  | 44 => ⟨S4096x2048, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S1x768x1024, .f32⟩
  | 58 => ⟨S768x1024, .f32⟩
  | 59 => ⟨S1024x768, .f32⟩
  | 60 => ⟨S4096x768, .f32⟩
  | 61 => ⟨S1x768, .f32⟩
  | 62 => ⟨S768, .f32⟩
  | 63 => ⟨S1x768, .f32⟩
  | 64 => ⟨S4096x768, .f32⟩
  | 65 => ⟨S4096x768, .f32⟩
  | 66 => ⟨S4096x1, .f32⟩
  | 67 => ⟨S4096x768, .f32⟩
  | 68 => ⟨S4096x768, .f32⟩
  | 69 => ⟨S4096x768, .f32⟩
  | 70 => ⟨S_, .i32⟩
  | 71 => ⟨S4096x2, .i32⟩
  | 72 => ⟨S4096x2, .i1⟩
  | 73 => ⟨S_, .f32⟩
  | 74 => ⟨S_, .f32⟩
  | 75 => ⟨S4096x2, .f32⟩
  | 76 => ⟨S4096x2, .f32⟩
  | 77 => ⟨S_, .f32⟩
  | 78 => ⟨S4096, .f32⟩
  | 79 => ⟨S1x2048x768, .f32⟩
  | 80 => ⟨S2048x768, .f32⟩
  | 81 => ⟨S768x2048, .f32⟩
  | 82 => ⟨S4096x2048, .f32⟩
  | 83 => ⟨S1x2048, .f32⟩
  | 84 => ⟨S2048, .f32⟩
  | 85 => ⟨S1x2048, .f32⟩
  | 86 => ⟨S4096x2048, .f32⟩
  | 87 => ⟨S4096x2048, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x1024, .f32⟩
  | 99 => ⟨S4096x1024, .f32⟩
  | 100 => ⟨S1x768x1024, .f32⟩
  | 101 => ⟨S768x1024, .f32⟩
  | 102 => ⟨S1024x768, .f32⟩
  | 103 => ⟨S4096x768, .f32⟩
  | 104 => ⟨S1x768, .f32⟩
  | 105 => ⟨S768, .f32⟩
  | 106 => ⟨S1x768, .f32⟩
  | 107 => ⟨S4096x768, .f32⟩
  | 108 => ⟨S4096x768, .f32⟩
  | 109 => ⟨S4096x1, .f32⟩
  | 110 => ⟨S4096x768, .f32⟩
  | 111 => ⟨S4096x768, .f32⟩
  | 112 => ⟨S4096x768, .f32⟩
  | 113 => ⟨S_, .i32⟩
  | 114 => ⟨S4096x2, .i32⟩
  | 115 => ⟨S4096x2, .i1⟩
  | 116 => ⟨S_, .f32⟩
  | 117 => ⟨S_, .f32⟩
  | 118 => ⟨S4096x2, .f32⟩
  | 119 => ⟨S4096x2, .f32⟩
  | 120 => ⟨S_, .f32⟩
  | 121 => ⟨S4096, .f32⟩
  | 122 => ⟨S1x2048x768, .f32⟩
  | 123 => ⟨S2048x768, .f32⟩
  | 124 => ⟨S768x2048, .f32⟩
  | 125 => ⟨S4096x2048, .f32⟩
  | 126 => ⟨S1x2048, .f32⟩
  | 127 => ⟨S2048, .f32⟩
  | _ => ⟨S2x2048x768, .f32⟩

abbrev hbmTy0_1 (i : Nat) : BufTy := match i % 128 with
  | 0 => ⟨S1x2048, .f32⟩
  | 1 => ⟨S4096x2048, .f32⟩
  | 2 => ⟨S4096x2048, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S1x768x1024, .f32⟩
  | 16 => ⟨S768x1024, .f32⟩
  | 17 => ⟨S1024x768, .f32⟩
  | 18 => ⟨S4096x768, .f32⟩
  | 19 => ⟨S1x768, .f32⟩
  | 20 => ⟨S768, .f32⟩
  | 21 => ⟨S1x768, .f32⟩
  | 22 => ⟨S4096x768, .f32⟩
  | 23 => ⟨S4096x768, .f32⟩
  | 24 => ⟨S4096x1, .f32⟩
  | 25 => ⟨S4096x768, .f32⟩
  | 26 => ⟨S4096x768, .f32⟩
  | 27 => ⟨S4096x768, .f32⟩
  | 28 => ⟨S_, .i32⟩
  | 29 => ⟨S4096x2, .i32⟩
  | 30 => ⟨S4096x2, .i1⟩
  | 31 => ⟨S_, .f32⟩
  | 32 => ⟨S_, .f32⟩
  | 33 => ⟨S4096x2, .f32⟩
  | 34 => ⟨S4096x2, .f32⟩
  | 35 => ⟨S_, .f32⟩
  | 36 => ⟨S4096, .f32⟩
  | 37 => ⟨S1x2048x768, .f32⟩
  | 38 => ⟨S2048x768, .f32⟩
  | 39 => ⟨S768x2048, .f32⟩
  | 40 => ⟨S4096x2048, .f32⟩
  | 41 => ⟨S1x2048, .f32⟩
  | 42 => ⟨S2048, .f32⟩
  | 43 => ⟨S1x2048, .f32⟩
  | 44 => ⟨S4096x2048, .f32⟩
  | 45 => ⟨S4096x2048, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S4096x1024, .f32⟩
  | 58 => ⟨S1x768x1024, .f32⟩
  | 59 => ⟨S768x1024, .f32⟩
  | 60 => ⟨S1024x768, .f32⟩
  | 61 => ⟨S4096x768, .f32⟩
  | 62 => ⟨S1x768, .f32⟩
  | 63 => ⟨S768, .f32⟩
  | 64 => ⟨S1x768, .f32⟩
  | 65 => ⟨S4096x768, .f32⟩
  | 66 => ⟨S4096x768, .f32⟩
  | 67 => ⟨S4096x1, .f32⟩
  | 68 => ⟨S4096x768, .f32⟩
  | 69 => ⟨S4096x768, .f32⟩
  | 70 => ⟨S4096x768, .f32⟩
  | 71 => ⟨S_, .i32⟩
  | 72 => ⟨S4096x2, .i32⟩
  | 73 => ⟨S4096x2, .i1⟩
  | 74 => ⟨S_, .f32⟩
  | 75 => ⟨S_, .f32⟩
  | 76 => ⟨S4096x2, .f32⟩
  | 77 => ⟨S4096x2, .f32⟩
  | 78 => ⟨S_, .f32⟩
  | 79 => ⟨S4096, .f32⟩
  | 80 => ⟨S1x2048x768, .f32⟩
  | 81 => ⟨S2048x768, .f32⟩
  | 82 => ⟨S768x2048, .f32⟩
  | 83 => ⟨S4096x2048, .f32⟩
  | 84 => ⟨S1x2048, .f32⟩
  | 85 => ⟨S2048, .f32⟩
  | 86 => ⟨S1x2048, .f32⟩
  | 87 => ⟨S4096x2048, .f32⟩
  | 88 => ⟨S4096x2048, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096x1024, .f32⟩
  | 100 => ⟨S4096x1024, .f32⟩
  | 101 => ⟨S1x768x1024, .f32⟩
  | 102 => ⟨S768x1024, .f32⟩
  | 103 => ⟨S1024x768, .f32⟩
  | 104 => ⟨S4096x768, .f32⟩
  | 105 => ⟨S1x768, .f32⟩
  | 106 => ⟨S768, .f32⟩
  | 107 => ⟨S1x768, .f32⟩
  | 108 => ⟨S4096x768, .f32⟩
  | 109 => ⟨S4096x768, .f32⟩
  | 110 => ⟨S4096x1, .f32⟩
  | 111 => ⟨S4096x768, .f32⟩
  | 112 => ⟨S4096x768, .f32⟩
  | 113 => ⟨S4096x768, .f32⟩
  | 114 => ⟨S_, .i32⟩
  | 115 => ⟨S4096x2, .i32⟩
  | 116 => ⟨S4096x2, .i1⟩
  | 117 => ⟨S_, .f32⟩
  | 118 => ⟨S_, .f32⟩
  | 119 => ⟨S4096x2, .f32⟩
  | 120 => ⟨S4096x2, .f32⟩
  | 121 => ⟨S_, .f32⟩
  | 122 => ⟨S4096, .f32⟩
  | 123 => ⟨S1x2048x768, .f32⟩
  | 124 => ⟨S2048x768, .f32⟩
  | 125 => ⟨S768x2048, .f32⟩
  | 126 => ⟨S4096x2048, .f32⟩
  | 127 => ⟨S1x2048, .f32⟩
  | _ => ⟨S2x2048x768, .f32⟩

abbrev hbmTy0_2 (i : Nat) : BufTy := match i % 128 with
  | 0 => ⟨S2048, .f32⟩
  | 1 => ⟨S1x2048, .f32⟩
  | 2 => ⟨S4096x2048, .f32⟩
  | 3 => ⟨S4096x2048, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S1x768x1024, .f32⟩
  | 17 => ⟨S768x1024, .f32⟩
  | 18 => ⟨S1024x768, .f32⟩
  | 19 => ⟨S4096x768, .f32⟩
  | 20 => ⟨S1x768, .f32⟩
  | 21 => ⟨S768, .f32⟩
  | 22 => ⟨S1x768, .f32⟩
  | 23 => ⟨S4096x768, .f32⟩
  | 24 => ⟨S4096x768, .f32⟩
  | 25 => ⟨S4096x1, .f32⟩
  | 26 => ⟨S4096x768, .f32⟩
  | 27 => ⟨S4096x768, .f32⟩
  | 28 => ⟨S4096x768, .f32⟩
  | 29 => ⟨S_, .i32⟩
  | 30 => ⟨S4096x2, .i32⟩
  | 31 => ⟨S4096x2, .i1⟩
  | 32 => ⟨S_, .f32⟩
  | 33 => ⟨S_, .f32⟩
  | 34 => ⟨S4096x2, .f32⟩
  | 35 => ⟨S4096x2, .f32⟩
  | 36 => ⟨S_, .f32⟩
  | 37 => ⟨S4096, .f32⟩
  | 38 => ⟨S1x2048x768, .f32⟩
  | 39 => ⟨S2048x768, .f32⟩
  | 40 => ⟨S768x2048, .f32⟩
  | 41 => ⟨S4096x2048, .f32⟩
  | 42 => ⟨S1x2048, .f32⟩
  | 43 => ⟨S2048, .f32⟩
  | 44 => ⟨S1x2048, .f32⟩
  | 45 => ⟨S4096x2048, .f32⟩
  | 46 => ⟨S4096x2048, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S4096x1024, .f32⟩
  | 59 => ⟨S1x768x1024, .f32⟩
  | 60 => ⟨S768x1024, .f32⟩
  | 61 => ⟨S1024x768, .f32⟩
  | 62 => ⟨S4096x768, .f32⟩
  | 63 => ⟨S1x768, .f32⟩
  | 64 => ⟨S768, .f32⟩
  | 65 => ⟨S1x768, .f32⟩
  | 66 => ⟨S4096x768, .f32⟩
  | 67 => ⟨S4096x768, .f32⟩
  | 68 => ⟨S4096x1, .f32⟩
  | 69 => ⟨S4096x768, .f32⟩
  | 70 => ⟨S4096x768, .f32⟩
  | 71 => ⟨S4096x768, .f32⟩
  | 72 => ⟨S_, .i32⟩
  | 73 => ⟨S4096x2, .i32⟩
  | 74 => ⟨S4096x2, .i1⟩
  | 75 => ⟨S_, .f32⟩
  | 76 => ⟨S_, .f32⟩
  | 77 => ⟨S4096x2, .f32⟩
  | 78 => ⟨S4096x2, .f32⟩
  | 79 => ⟨S_, .f32⟩
  | 80 => ⟨S4096, .f32⟩
  | 81 => ⟨S1x2048x768, .f32⟩
  | 82 => ⟨S2048x768, .f32⟩
  | 83 => ⟨S768x2048, .f32⟩
  | 84 => ⟨S4096x2048, .f32⟩
  | 85 => ⟨S1x2048, .f32⟩
  | 86 => ⟨S2048, .f32⟩
  | 87 => ⟨S1x2048, .f32⟩
  | 88 => ⟨S4096x2048, .f32⟩
  | 89 => ⟨S4096x2048, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S4096x1024, .f32⟩
  | 101 => ⟨S4096x1024, .f32⟩
  | 102 => ⟨S1x768x1024, .f32⟩
  | 103 => ⟨S768x1024, .f32⟩
  | 104 => ⟨S1024x768, .f32⟩
  | 105 => ⟨S4096x768, .f32⟩
  | 106 => ⟨S1x768, .f32⟩
  | 107 => ⟨S768, .f32⟩
  | 108 => ⟨S1x768, .f32⟩
  | 109 => ⟨S4096x768, .f32⟩
  | 110 => ⟨S4096x768, .f32⟩
  | 111 => ⟨S4096x1, .f32⟩
  | 112 => ⟨S4096x768, .f32⟩
  | 113 => ⟨S4096x768, .f32⟩
  | 114 => ⟨S4096x768, .f32⟩
  | 115 => ⟨S2x2048x768, .f32⟩
  | 116 => ⟨S_, .f32⟩
  | _ => ⟨S2x2048x768, .f32⟩

abbrev hbmTy (i : Nat) : BufTy := match i / 128 with
  | 0 => hbmTy0_0 i
  | 1 => hbmTy0_1 i
  | 2 => hbmTy0_2 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_8 : Ref sig .tc := ⟨.hbm, 113, rfl⟩
abbrev main_v75 : Ref sig .tc := ⟨.hbm, 114, rfl⟩
abbrev main_v76 : Ref sig .tc := ⟨.hbm, 115, rfl⟩
abbrev main_cst_9 : Ref sig .tc := ⟨.hbm, 116, rfl⟩
abbrev main_call4_v0 : Ref sig .tc := ⟨.hbm, 117, rfl⟩
abbrev main_call4_v1 : Ref sig .tc := ⟨.hbm, 118, rfl⟩
abbrev main_v77 : Ref sig .tc := ⟨.hbm, 119, rfl⟩
abbrev main_cst_10 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_11 : Ref sig .tc := ⟨.hbm, 156, rfl⟩
abbrev main_v105 : Ref sig .tc := ⟨.hbm, 157, rfl⟩
abbrev main_v106 : Ref sig .tc := ⟨.hbm, 158, rfl⟩
abbrev main_cst_12 : Ref sig .tc := ⟨.hbm, 159, rfl⟩
abbrev main_call6_v0 : Ref sig .tc := ⟨.hbm, 160, rfl⟩
abbrev main_call6_v1 : Ref sig .tc := ⟨.hbm, 161, rfl⟩
abbrev main_v107 : Ref sig .tc := ⟨.hbm, 162, rfl⟩
abbrev main_cst_13 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call7_v0 : Ref sig .tc := ⟨.hbm, 176, rfl⟩
abbrev main_call7_v1 : Ref sig .tc := ⟨.hbm, 177, rfl⟩
abbrev main_call7_cst : Ref sig .tc := ⟨.hbm, 178, rfl⟩
abbrev main_call7_v2 : Ref sig .tc := ⟨.hbm, 179, rfl⟩
abbrev main_call7_v3 : Ref sig .tc := ⟨.hbm, 180, rfl⟩
abbrev main_call7_cst_0 : Ref sig .tc := ⟨.hbm, 181, rfl⟩
abbrev main_call7_v4 : Ref sig .tc := ⟨.hbm, 182, rfl⟩
abbrev main_call7_v5 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_c_14 : Ref sig .tc := ⟨.hbm, 199, rfl⟩
abbrev main_v135 : Ref sig .tc := ⟨.hbm, 200, rfl⟩
abbrev main_v136 : Ref sig .tc := ⟨.hbm, 201, rfl⟩
abbrev main_cst_15 : Ref sig .tc := ⟨.hbm, 202, rfl⟩
abbrev main_call8_v0 : Ref sig .tc := ⟨.hbm, 203, rfl⟩
abbrev main_call8_v1 : Ref sig .tc := ⟨.hbm, 204, rfl⟩
abbrev main_v137 : Ref sig .tc := ⟨.hbm, 205, rfl⟩
abbrev main_cst_16 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_call9_v0 : Ref sig .tc := ⟨.hbm, 219, rfl⟩
abbrev main_call9_v1 : Ref sig .tc := ⟨.hbm, 220, rfl⟩
abbrev main_call9_cst : Ref sig .tc := ⟨.hbm, 221, rfl⟩
abbrev main_call9_v2 : Ref sig .tc := ⟨.hbm, 222, rfl⟩
abbrev main_call9_v3 : Ref sig .tc := ⟨.hbm, 223, rfl⟩
abbrev main_call9_cst_0 : Ref sig .tc := ⟨.hbm, 224, rfl⟩
abbrev main_call9_v4 : Ref sig .tc := ⟨.hbm, 225, rfl⟩
abbrev main_call9_v5 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_c_17 : Ref sig .tc := ⟨.hbm, 242, rfl⟩
abbrev main_v165 : Ref sig .tc := ⟨.hbm, 243, rfl⟩
abbrev main_v166 : Ref sig .tc := ⟨.hbm, 244, rfl⟩
abbrev main_cst_18 : Ref sig .tc := ⟨.hbm, 245, rfl⟩
abbrev main_call10_v0 : Ref sig .tc := ⟨.hbm, 246, rfl⟩
abbrev main_call10_v1 : Ref sig .tc := ⟨.hbm, 247, rfl⟩
abbrev main_v167 : Ref sig .tc := ⟨.hbm, 248, rfl⟩
abbrev main_cst_19 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_call11_v0 : Ref sig .tc := ⟨.hbm, 262, rfl⟩
abbrev main_call11_v1 : Ref sig .tc := ⟨.hbm, 263, rfl⟩
abbrev main_call11_cst : Ref sig .tc := ⟨.hbm, 264, rfl⟩
abbrev main_call11_v2 : Ref sig .tc := ⟨.hbm, 265, rfl⟩
abbrev main_call11_v3 : Ref sig .tc := ⟨.hbm, 266, rfl⟩
abbrev main_call11_cst_0 : Ref sig .tc := ⟨.hbm, 267, rfl⟩
abbrev main_call11_v4 : Ref sig .tc := ⟨.hbm, 268, rfl⟩
abbrev main_call11_v5 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_c_20 : Ref sig .tc := ⟨.hbm, 285, rfl⟩
abbrev main_v195 : Ref sig .tc := ⟨.hbm, 286, rfl⟩
abbrev main_v196 : Ref sig .tc := ⟨.hbm, 287, rfl⟩
abbrev main_cst_21 : Ref sig .tc := ⟨.hbm, 288, rfl⟩
abbrev main_call12_v0 : Ref sig .tc := ⟨.hbm, 289, rfl⟩
abbrev main_call12_v1 : Ref sig .tc := ⟨.hbm, 290, rfl⟩
abbrev main_v197 : Ref sig .tc := ⟨.hbm, 291, rfl⟩
abbrev main_cst_22 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_call13_v0 : Ref sig .tc := ⟨.hbm, 305, rfl⟩
abbrev main_call13_v1 : Ref sig .tc := ⟨.hbm, 306, rfl⟩
abbrev main_call13_cst : Ref sig .tc := ⟨.hbm, 307, rfl⟩
abbrev main_call13_v2 : Ref sig .tc := ⟨.hbm, 308, rfl⟩
abbrev main_call13_v3 : Ref sig .tc := ⟨.hbm, 309, rfl⟩
abbrev main_call13_cst_0 : Ref sig .tc := ⟨.hbm, 310, rfl⟩
abbrev main_call13_v4 : Ref sig .tc := ⟨.hbm, 311, rfl⟩
abbrev main_call13_v5 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_c_23 : Ref sig .tc := ⟨.hbm, 328, rfl⟩
abbrev main_v225 : Ref sig .tc := ⟨.hbm, 329, rfl⟩
abbrev main_v226 : Ref sig .tc := ⟨.hbm, 330, rfl⟩
abbrev main_cst_24 : Ref sig .tc := ⟨.hbm, 331, rfl⟩
abbrev main_call14_v0 : Ref sig .tc := ⟨.hbm, 332, rfl⟩
abbrev main_call14_v1 : Ref sig .tc := ⟨.hbm, 333, rfl⟩
abbrev main_v227 : Ref sig .tc := ⟨.hbm, 334, rfl⟩
abbrev main_cst_25 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_call15_v0 : Ref sig .tc := ⟨.hbm, 348, rfl⟩
abbrev main_call15_v1 : Ref sig .tc := ⟨.hbm, 349, rfl⟩
abbrev main_call15_cst : Ref sig .tc := ⟨.hbm, 350, rfl⟩
abbrev main_call15_v2 : Ref sig .tc := ⟨.hbm, 351, rfl⟩
abbrev main_call15_v3 : Ref sig .tc := ⟨.hbm, 352, rfl⟩
abbrev main_call15_cst_0 : Ref sig .tc := ⟨.hbm, 353, rfl⟩
abbrev main_call15_v4 : Ref sig .tc := ⟨.hbm, 354, rfl⟩
abbrev main_call15_v5 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_cst_26 : Ref sig .tc := ⟨.hbm, 372, rfl⟩

abbrev nD : Nat := 1
abbrev τ : Topo := Topo.v7x

variable {F : FTy → Type} [FloatOps F]
-- ==== Proof.MoeBody.lean ====
/- One run of the mixture-of-experts body, in each of its two cases, with the contents it leaves: the router's
   weights in the carried scratch and the expert's weighted output in the result's rows. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `X` is `d` with the block `w` put at the rectangle `r`. -/
def Put {s : Shape} {α : Type} (r : Rect s) (w : r.shape.Idx → α) (d X : s.Idx → α) : Prop :=
  (∀ x, X (r.emb x) = w x) ∧ ∀ y, y ∉ r.set → X y = d y

/-- One store over contents that read `d` leaves contents that read `d` with the payload put in. -/
theorem put_writes {κ : Kind} {sp : Space} {s : Shape} {e : EltTy} {Val : EltTy → Type}
    (v : View sig κ sp s e) (f : v.ty.Contents Val) (r : Rect s) (w : r.shape.Idx → Val e) :
    Put r w (v.read Val f) (v.read Val (v.writes Val f [⟨r, w⟩])) :=
  ⟨fun x => View.read_writes_cons_emb v f r w [] x, fun y hy => View.read_writes_cons_miss v f ⟨r, w⟩ [] y hy⟩

set_option maxHeartbeats 1000000 in
/-- The body at a point of a later expert: every input and the scratch as they were, and in the result's rows the
    weighted output of the expert added to what they held. -/
theorem run_later (c : Dev nD) (i : grid0.Coords) (arg2 : Memref sig .tc .vmem S1024x768 .f32) (harg2 : arg2.IsWhole)
    (arg3 : Memref sig .tc .vmem S8x768 .f32) (harg3 : arg3.IsWhole) (arg4 : Memref sig .tc .vmem S1x2048x768 .f32) (harg4 : arg4.IsWhole)
    (arg5 : Memref sig .tc .vmem S1x768x1024 .f32) (harg5 : arg5.IsWhole) (arg6 : Memref sig .tc .vmem S4096x768 .f32) (harg6 : arg6.IsWhole)
    (arg7 : Memref sig .tc .vmem S4096x8 .f32) (harg7 : arg7.IsWhole)
    (hc0 : ¬ k0_cond1 i = 1#1) (hc1 : ¬ k0_cond2 i = 1#1) (hc2 : k0_cond3 i = 1#1)
    (x0 : Vec F S1024x768 .f32) (x1 : Vec F S8x768 .f32) (x2 : Vec F S1x2048x768 .f32) (x3 : Vec F S1x768x1024 .f32)
    (d : Vec F S4096x768 .f32) (ds : Vec F S4096x8 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare ds
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ X, ⌜Put (Rect.unit (s := S4096x768) (k0_off4 i) S1024x768.size (k0_off4_inb i hc2))
                  (k0_pay4 i x0 (View.ld ds (Rect.unit (s := S4096x8) (k0_off2 i) S1024x8.size (k0_off2_inb i))) x2 x3
                    (View.ld d (Rect.unit (s := S4096x768) (k0_off4 i) S1024x768.size (k0_off4_inb i hc2)))) d X⌝
                ∗ owns (c : Thread nD τ) arg6 fullShare X)
            ∗ owns (c : Thread nD τ) arg7 fullShare ds) -∗ K ⟨⟩))
      ⊢ wp frame (wpE (defs₀ (F := F)) Variants.none c none) E (cc0__moe_kernel i arg2 harg2 arg3 harg3 arg4 harg4 arg5 harg5 arg6 harg6 arg7 harg7) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _
    isplitr; swap
    · iexists _; isplitr; swap; · iexact H4
      ipureintro; rfl
    ipureintro
    have h := put_writes arg6.view (harg6.unread d) (Rect.unit (s := S4096x768) (k0_off4 i) S1024x768.size (k0_off4_inb i hc2))
      (k0_pay4 i x0 (View.ld ds (Rect.unit (s := S4096x8) (k0_off2 i) S1024x8.size (k0_off2_inb i))) x2 x3
        (View.ld d (Rect.unit (s := S4096x768) (k0_off4 i) S1024x768.size (k0_off4_inb i hc2))))
    rw [harg6.read_unread] at h
    rw [View.readAt_eq_ld, View.readAt_eq_ld, View.readAt_eq_ld, View.readAt_eq_ld, View.readAt_eq_ld, harg2.read_unread,
      harg4.read_unread, harg5.read_unread, harg6.read_unread, harg7.read_unread,
      View.ld_unit_lit (S := S1024x768) _ _ (by decide), View.ld_unit_lit (S := S1x2048x768) _ _ (by decide),
      View.ld_unit_lit (S := S1x768x1024) _ _ (by decide)]
    exact h
  iexists _; isplitr; · ipureintro; exact harg7.read_unread _
  iexact HS0

set_option maxHeartbeats 1000000 in
/-- The body at a point of the first expert: every input as it was, the router's weights put in the scratch's rows, and the
    weighted output of the expert put in the result's rows. -/
theorem run_first (c : Dev nD) (i : grid0.Coords) (arg2 : Memref sig .tc .vmem S1024x768 .f32) (harg2 : arg2.IsWhole)
    (arg3 : Memref sig .tc .vmem S8x768 .f32) (harg3 : arg3.IsWhole) (arg4 : Memref sig .tc .vmem S1x2048x768 .f32) (harg4 : arg4.IsWhole)
    (arg5 : Memref sig .tc .vmem S1x768x1024 .f32) (harg5 : arg5.IsWhole) (arg6 : Memref sig .tc .vmem S4096x768 .f32) (harg6 : arg6.IsWhole)
    (arg7 : Memref sig .tc .vmem S4096x8 .f32) (harg7 : arg7.IsWhole)
    (hc0 : k0_cond1 i = 1#1) (hc1 : k0_cond2 i = 1#1) (hc2 : ¬ k0_cond3 i = 1#1)
    (x0 : Vec F S1024x768 .f32) (x1 : Vec F S8x768 .f32) (x2 : Vec F S1x2048x768 .f32) (x3 : Vec F S1x768x1024 .f32)
    (d : Vec F S4096x768 .f32) (ds : Vec F S4096x8 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare d ∗ owns (c : Thread nD τ) arg7 fullShare ds
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ (∃ Xs, ⌜Put (Rect.unit (s := S4096x8) (k0_off1 i) S1024x8.size (k0_off1_inb i hc0)) (k0_pay2 (k0_pay5 (k0_pay1 x0) x1)) ds Xs⌝
                ∗ (∃ X, ⌜Put (Rect.unit (s := S4096x768) (k0_off3 i) S1024x768.size (k0_off3_inb i hc1))
                      (k0_pay3 i x0 (k0_pay2 (k0_pay5 (k0_pay1 x0) x1)) x2 x3) d X⌝
                    ∗ owns (c : Thread nD τ) arg6 fullShare X)
                ∗ owns (c : Thread nD τ) arg7 fullShare Xs)) -∗ K ⟨⟩))
      ⊢ wp frame (wpE (defs₀ (F := F)) Variants.none c none) E (cc0__moe_kernel i arg2 harg2 arg3 harg3 arg4 harg4 arg5 harg5 arg6 harg6 arg7 harg7) K := by
  simp only [cc0__moe_kernel_eq_skeleton]; unfold cc0__moe_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  have hr : run_first.sl.r c arg2 harg2 arg3 harg3 x0 x1 = k0_pay5 (k0_pay1 x0) x1 := by
    unfold run_first.sl.r
    rw [View.readAt_eq_ld, View.readAt_eq_ld, harg2.read_unread, harg3.read_unread,
      View.ld_unit_lit (S := S1024x768) _ _ (by decide), View.ld_unit_lit (S := S8x768) _ _ (by decide)]
  have hs := put_writes arg7.view (harg7.unread ds) (Rect.unit (s := S4096x8) (k0_off1 i) S1024x8.size (k0_off1_inb i hc0))
    (k0_pay2 (k0_pay5 (k0_pay1 x0) x1))
  rw [harg7.read_unread] at hs
  iexists (arg7.view.read (Elt F) (arg7.view.writes (Elt F) (harg7.unread ds)
    [⟨Rect.unit (s := S4096x8) (k0_off1 i) S1024x8.size (k0_off1_inb i hc0), k0_pay2 (k0_pay5 (k0_pay1 x0) x1)⟩]))
  isplitr; swap
  · isplitl [H4]
    · iexists _
      isplitr; swap
      · iexists _; isplitr; swap; · iexact H4
        ipureintro; rfl
      ipureintro
      have h := put_writes arg6.view (harg6.unread d) (Rect.unit (s := S4096x768) (k0_off3 i) S1024x768.size (k0_off3_inb i hc1))
        (k0_pay3 i x0 (k0_pay2 (k0_pay5 (k0_pay1 x0) x1)) x2 x3)
      rw [harg6.read_unread] at h
      have hv : run_first.sl.v7 c i arg2 harg2 arg3 harg3 arg7 hc0 x0 x1 = k0_pay2 (k0_pay5 (k0_pay1 x0) x1) := by
        unfold run_first.sl.v7 run_first.sl.HS0_1
        rw [hr]
        funext x
        exact View.read_writes_cons_emb (Val := Elt F) arg7.view _ (Rect.unit (s := S4096x8) (k0_off1 i) S1024x8.size (k0_off1_inb i hc0))
          (k0_pay2 (k0_pay5 (k0_pay1 x0) x1)) [] x
      rw [hv, View.readAt_eq_ld, View.readAt_eq_ld, View.readAt_eq_ld, harg2.read_unread, harg4.read_unread, harg5.read_unread,
        View.ld_unit_lit (S := S1024x768) _ _ (by decide), View.ld_unit_lit (S := S1x2048x768) _ _ (by decide),
        View.ld_unit_lit (S := S1x768x1024) _ _ (by decide)]
      exact h
    · iexists _; isplitr; swap; · iexact HS0
      ipureintro
      unfold run_first.sl.HS0_1
      rw [hr]
  ipureintro
  exact hs

end Cert.KernelIdeal.Moe

end
-- ==== Proof.MoeData.lean ====
/- The pipeline's proof data of the mixture-of-experts kernel. The result's buffer is never named as a whole before the
   last point: what is kept of it is, band of rows by band of rows, the sum of the experts met so far; of the carried
   scratch, band by band, the router's weights. -/
module

public import proofs.«01_k».proof.Proof.MoeBody
public import Idealize.ShloMosaic.Lib.Writes
public import Idealize.ShloMosaic.Lib.Pipeline.DatRel
public import Idealize.ShloMosaic.Lib.Pipeline.ArrRel

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F]

local notation "𝕄" => MT nD τ sig Unit (Elt F) ℕ (UR sig nD τ) ℕ

variable (m : (ℓ : Loc nD τ sig) → Buf (Elt F) ℓ)

/-! ## The points and the bands of rows -/

/-- The grid's point of number `k`. -/
def pt (k : ℕ) : Fin cfg0.N := ⟨k % 32, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

theorem coord0 (t : Fin cfg0.N) : (grid0.coords t 0).val = t.val / 4 := by
  have ht : t.val < 32 := Nat.lt_of_lt_of_eq t.isLt N_0
  have e0 : (grid0.coords t 0).val = t.val / 4 % 8 := Pipeline.Grid.coords_val t 0 (by decide) rfl
  omega

theorem coord1 (t : Fin cfg0.N) : (grid0.coords t 1).val = t.val % 4 := by
  have e1 : (grid0.coords t 1).val = t.val / 1 % 4 := Pipeline.Grid.coords_val t 1 (by decide) rfl
  omega

/-- The first band of experts is the first four points, for every one of the body's three tests. -/
theorem first_iff (t : Fin cfg0.N) : k0_cond1 (grid0.coords t) = 1#1 ↔ t.val < 4 := by
  have ht : t.val < 32 := Nat.lt_of_lt_of_eq t.isLt N_0
  simp only [k0_cond1, coord0]
  word_cmp

theorem first_iff' (t : Fin cfg0.N) : k0_cond2 (grid0.coords t) = 1#1 ↔ t.val < 4 := by
  have ht : t.val < 32 := Nat.lt_of_lt_of_eq t.isLt N_0
  simp only [k0_cond2, coord0]
  word_cmp

theorem later_iff (t : Fin cfg0.N) : k0_cond3 (grid0.coords t) = 1#1 ↔ 4 ≤ t.val := by
  have ht : t.val < 32 := Nat.lt_of_lt_of_eq t.isLt N_0
  simp only [k0_cond3, coord0]
  word_cmp

/-- A tile's first row, as a word: no product wraps. -/
theorem band_word {n : ℕ} (hn : n < 4) : (BitVec.ofNat 32 n * 1024#32).toNat = 1024 * n := by
  exact (by decide : ∀ k : Fin 4, (BitVec.ofNat 32 k.val * 1024#32).toNat = 1024 * k.val) ⟨n, hn⟩

theorem off_eq (t : Fin cfg0.N) : ![(BitVec.ofNat 32 (grid0.coords t 1).val * 1024#32).toNat, 0] = ![1024 * (t.val % 4), 0] := by
  rw [coord1, band_word (Nat.mod_lt _ (by decide))]

theorem off1 (t : Fin cfg0.N) : k0_off1 (grid0.coords t) = ![1024 * (t.val % 4), 0] := off_eq t
theorem off2 (t : Fin cfg0.N) : k0_off2 (grid0.coords t) = ![1024 * (t.val % 4), 0] := off_eq t
theorem off3 (t : Fin cfg0.N) : k0_off3 (grid0.coords t) = ![1024 * (t.val % 4), 0] := off_eq t
theorem off4 (t : Fin cfg0.N) : k0_off4 (grid0.coords t) = ![1024 * (t.val % 4), 0] := off_eq t

/-- A buffer of four bands of 1024 rows of `C` numbers, and one band. -/
abbrev Whole (C : ℕ) : Shape := ⟨2, ![4096, C]⟩
abbrev Band (C : ℕ) : Shape := ⟨2, ![1024, C]⟩

/-- Where band `j` (of four) keeps the place `y` of a band. -/
def place {C : ℕ} (j : ℕ) (y : (Band C).Idx) : (Whole C).Idx
  | ⟨0, _⟩ => ⟨(1024 * j + (y 0).val) % 4096, Nat.mod_lt _ (by decide)⟩
  | ⟨1, _⟩ => ⟨(y 1).val, (y 1).isLt⟩

theorem place0 {C : ℕ} {j : ℕ} (hj : j < 4) (y : (Band C).Idx) : (place j y 0).val = 1024 * j + (y 0).val := by
  have : (y 0).val < 1024 := (y 0).isLt
  exact Nat.mod_eq_of_lt (by omega)

theorem place1 {C : ℕ} (j : ℕ) (y : (Band C).Idx) : (place j y 1).val = (y 1).val := rfl

section Bands

variable {C : ℕ} {α : Type} {j : ℕ} (off : Fin 2 → ℕ) (ho : off = ![1024 * j, 0])
  (inb : ∀ a, off a + (Band C).size a ≤ (Whole C).size a)

include ho in
theorem emb_band (hj : j < 4) (y : (Band C).Idx) :
    (Rect.unit (s := Whole C) off (Band C).size inb).emb y = place j y := by
  subst ho
  refine Rect.emb_eq_of_coords _ _ _ fun a => ?_
  fin_cases a
  · exact (place0 hj y).trans (by show _ = 1024 * j + 1 * (y 0).val; omega)
  · show (place j y 1).val = 0 + 1 * (y 1).val
    rw [place1]; omega

include ho in
/-- A band put in reads back as put, -/
theorem put_here (hj : j < 4) {w : (Band C).Idx → α} {d X : (Whole C).Idx → α}
    (h : Put (Rect.unit (s := Whole C) off (Band C).size inb) w d X) (y : (Band C).Idx) : X (place j y) = w y := by
  rw [← emb_band off ho inb hj y]; exact h.1 y

include ho in
/-- and the other bands as they were. -/
theorem put_there (hj : j < 4) {w : (Band C).Idx → α} {d X : (Whole C).Idx → α}
    (h : Put (Rect.unit (s := Whole C) off (Band C).size inb) w d X) {i : ℕ} (hi : i < 4) (hij : i ≠ j) (y : (Band C).Idx) :
    X (place i y) = d (place i y) := by
  refine h.2 _ (Rect.not_mem_set_of_axis _ _ 0 (1024 * j) 1024 (by subst ho; rfl) rfl rfl ?_)
  have : (y 0).val < 1024 := (y 0).isLt
  rw [place0 hi]; omega

include ho in
/-- A load of a band reads it place by place. -/
theorem ld_band {Val : EltTy → Type} {e : EltTy} (hj : j < 4) (d : (Whole C).Idx → Val e) (y : (Band C).Idx) :
    View.ld (Val := Val) (e' := e) d (Rect.unit (s := Whole C) off (Band C).size inb) y = d (place j y) := by
  rw [← emb_band off ho inb hj y]; rfl

end Bands

/-! ## What the buffers hold -/

/-- The router's weights of the tokens of the point's tile. -/
def weights (c : Dev nD) (t : Fin cfg0.N) : Vec F S1024x8 .f32 :=
  k0_pay2 (k0_pay5 (k0_pay1 (iblk m c 0 t)) (iblk m c 1 t))

/-- Tile `j`'s result after experts `0 … n`. -/
def acc (c : Dev nD) (j : ℕ) : ℕ → Vec F S1024x768 .f32
  | 0 => k0_pay3 (grid0.coords (pt j)) (iblk m c 0 (pt j)) (weights m c (pt j)) (iblk m c 2 (pt j)) (iblk m c 3 (pt j))
  | n + 1 => k0_pay4 (grid0.coords (pt (4 * (n + 1) + j))) (iblk m c 0 (pt (4 * (n + 1) + j))) (weights m c (pt j))
      (iblk m c 2 (pt (4 * (n + 1) + j))) (iblk m c 3 (pt (4 * (n + 1) + j))) (acc c j n)

/-- What the result's buffer holds once point `t` is done. -/
def Done (c : Dev nD) (t : ℕ) (X : Vec F S4096x768 .f32) : Prop :=
  ∀ j, j < 4 → j ≤ t → ∀ y : (Band 768).Idx, X (place j y) = acc m c j ((t - j) / 4) y

/-- What the scratch holds before point `t`. -/
def Routed (c : Dev nD) (t : ℕ) (d : Vec F S4096x8 .f32) : Prop :=
  ∀ j, j < 4 → j < t → ∀ y : (Band 8).Idx, d (place j y) = weights m c (pt j) y

theorem Routed.first {c : Dev nD} {t : Fin cfg0.N} (ht : t.val < 4) {off : Fin 2 → ℕ} (ho : off = ![1024 * (t.val % 4), 0])
    {inb : ∀ a, off a + S1024x8.size a ≤ S4096x8.size a} {d X : Vec F S4096x8 .f32} (h : Routed m c t.val d)
    (hX : Put (Rect.unit (s := S4096x8) off S1024x8.size inb) (weights m c t) d X) : Routed m c (t.val + 1) X := by
  intro j hj hjt y
  rw [Nat.mod_eq_of_lt ht] at ho
  by_cases e : j = t.val
  · subst e
    rw [put_here (C := 8) off ho inb hj hX y, pt_val]
  · rw [put_there (C := 8) off ho inb ht hX hj e y]
    exact h j hj (by omega) y

theorem Done.first {c : Dev nD} {t : Fin cfg0.N} (ht : t.val < 4) {off : Fin 2 → ℕ} (ho : off = ![1024 * (t.val % 4), 0])
    {inb : ∀ a, off a + S1024x768.size a ≤ S4096x768.size a} {d X : Vec F S4096x768 .f32}
    (h : t.val ≠ 0 → Done m c (t.val - 1) d)
    (hX : Put (Rect.unit (s := S4096x768) off S1024x768.size inb)
      (k0_pay3 (grid0.coords t) (iblk m c 0 t) (weights m c t) (iblk m c 2 t) (iblk m c 3 t)) d X) : Done m c t.val X := by
  intro j hj hjt y
  rw [Nat.mod_eq_of_lt ht] at ho
  have z : ∀ {a : ℕ}, a < 4 → (a - j) / 4 = 0 := fun {a} ha => by omega
  rw [z ht]
  by_cases e : j = t.val
  · subst e
    rw [put_here (C := 768) off ho inb hj hX y]
    unfold acc; rw [pt_val]
  · rw [put_there (C := 768) off ho inb ht hX hj e y]
    rw [h (by omega) j hj (by omega) y, z (by omega)]

theorem Done.later {c : Dev nD} {t : Fin cfg0.N} (ht : 4 ≤ t.val) {off off' : Fin 2 → ℕ} (ho : off = ![1024 * (t.val % 4), 0])
    (ho' : off' = ![1024 * (t.val % 4), 0])
    {inb : ∀ a, off a + S1024x768.size a ≤ S4096x768.size a} {inb' : ∀ a, off' a + S1024x8.size a ≤ S4096x8.size a}
    {d X : Vec F S4096x768 .f32} {ds : Vec F S4096x8 .f32}
    (h : Done m c (t.val - 1) d) (hs : Routed m c t.val ds)
    (hX : Put (Rect.unit (s := S4096x768) off S1024x768.size inb)
      (k0_pay4 (grid0.coords t) (iblk m c 0 t) (View.ld ds (Rect.unit (s := S4096x8) off' S1024x8.size inb'))
        (iblk m c 2 t) (iblk m c 3 t) (View.ld d (Rect.unit (s := S4096x768) off S1024x768.size inb))) d X) : Done m c t.val X := by
  have hm : t.val % 4 < 4 := Nat.mod_lt _ (by decide)
  intro j hj hjt y
  by_cases e : j = t.val % 4
  · subst e
    rw [put_here (C := 768) off ho inb hm hX y]
    have e1 : (View.ld ds (Rect.unit (s := S4096x8) off' S1024x8.size inb') : Vec F S1024x8 .f32) = weights m c (pt (t.val % 4)) :=
      funext fun z => (ld_band (C := 8) off' ho' inb' hm ds z).trans (hs _ hm (by omega) z)
    have e2 : (View.ld d (Rect.unit (s := S4096x768) off S1024x768.size inb) : Vec F S1024x768 .f32)
        = acc m c (t.val % 4) (t.val / 4 - 1) :=
      funext fun z => (ld_band (C := 768) off ho inb hm d z).trans ((h _ hm (by omega) z).trans (by
        rw [show (t.val - 1 - t.val % 4) / 4 = t.val / 4 - 1 by omega]))
    rw [e1, e2, show (t.val - t.val % 4) / 4 = (t.val / 4 - 1) + 1 by omega]
    have e3 : pt (4 * ((t.val / 4 - 1) + 1) + t.val % 4) = t := by
      rw [show 4 * ((t.val / 4 - 1) + 1) + t.val % 4 = t.val by omega, pt_val]
    show _ = k0_pay4 _ _ _ _ _ _ y
    rw [e3]
  · rw [put_there (C := 768) off ho inb hm hX hj e y, h j hj (by omega) y]
    congr 1
    omega

theorem Routed.later {c : Dev nD} {t : ℕ} (ht : 4 ≤ t) {d : Vec F S4096x8 .f32} (h : Routed m c t d) : Routed m c (t + 1) d :=
  fun j hj _ y => h j hj (by omega) y

end Cert.KernelIdeal.Moe

end
-- ==== Proof.MoeOblig.lean ====
/- The body of the mixture-of-experts kernel meets its proof data at every point. -/
module

public import proofs.«01_k».proof.Proof.MoeData

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F]

local notation "𝕄" => MT nD τ sig Unit (Elt F) ℕ (UR sig nD τ) ℕ

variable (m : (ℓ : Loc nD τ sig) → Buf (Elt F) ℓ)

/-- The one window held to a predicate: the result's. -/
def held : Fin 5 → Bool := fun w => w.val == 4

/-- The predicate: the bands met so far hold their sums. -/
def holds (c : Dev nD) (w : Fin cfg0.W) (t : Fin cfg0.N) : ((cfg0.win w).block.Idx → Elt F (cfg0.win w).elt) → Prop :=
  match w with
  | ⟨4, _⟩ => Done m c t.val
  | _ => fun _ => True

/-- The scratch, as the body is handed it. -/
abbrev scratch : Memref sig .tc .vmem S4096x8 .f32 := Memref.whole cc0_scratch0

/-- The proof data: the arrays as the region finds them, every input's buffer at its block, the scratch at the weights
    routed so far. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := iprop((∃ d : Vec F S4096x8 .f32, ⌜Routed m c t.val d⌝ ∗ owns (c : Thread nD τ) scratch fullShare d) ∗ ∃ r, prngReg c r)
  q _ := fullShare
  owed _ := 0

theorem data_A (c : Dev nD) (w : Fin cfg0.W) : (data m 0 c).A w = V m c (Pipeline.arrRef spec0 w) := by
  dsimp only [data]

theorem after0 (c : Dev nD) (t : Fin cfg0.N) : (data m 0 c).after 0 t = iblk m c 0 t := by dsimp only [data]
theorem after1 (c : Dev nD) (t : Fin cfg0.N) : (data m 0 c).after 1 t = iblk m c 1 t := by dsimp only [data]
theorem after2 (c : Dev nD) (t : Fin cfg0.N) : (data m 0 c).after 2 t = iblk m c 2 t := by dsimp only [data]
theorem after3 (c : Dev nD) (t : Fin cfg0.N) : (data m 0 c).after 3 t = iblk m c 3 t := by dsimp only [data]

theorem before0 (c : Dev nD) (t : Fin cfg0.N) (d) : (data m 0 c).before 0 t d = iblk m c 0 t :=
  before0_0_of m (data m 0 c) (data_A m c 0) (after0 m c) t d
theorem before1 (c : Dev nD) (t : Fin cfg0.N) (d) : (data m 0 c).before 1 t d = iblk m c 1 t :=
  before0_1_of m (data m 0 c) (data_A m c 1) (after1 m c) t d
theorem before2 (c : Dev nD) (t : Fin cfg0.N) (d) : (data m 0 c).before 2 t d = iblk m c 2 t :=
  before0_2_of m (data m 0 c) (data_A m c 2) (after2 m c) t d
theorem before3 (c : Dev nD) (t : Fin cfg0.N) (d) : (data m 0 c).before 3 t d = iblk m c 3 t :=
  before0_3_of m (data m 0 c) (data_A m c 3) (after3 m c) t d

/-- The data with the result's window held to `holds`. -/
abbrev rdata (c : Dev nD) : Pipeline.RDat τ (Elt F) Unit ℕ (UR sig nD τ) ℕ cfg0 c := (data m 0 c).toRRel held (holds m c)

/-- After the first point the result's buffer is found as the point before left it. -/
theorem found (c : Dev nD) (t : Fin cfg0.N) (ht : t.val ≠ 0) (X : Vec F S4096x768 .f32)
    (h : (rdata m c).Finds 4 t X) : Done m c (t.val - 1) X := by
  have hN : t.val < 32 := Nat.lt_of_lt_of_eq t.isLt N_0
  have hf : (cfg0.win 4).fetch t = false := rfl
  rcases ((rdata m c).finds_of_pos hf ht X).mp h with h | h
  · have := (flush0_4 _).mp h
    dsimp only at this
    omega
  · exact Dat.toRRel_leaves (data m 0 c) (w := 4) rfl h

/-- What the body is called with at point `t`, -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ Y : Vec F S4096x768 .f32, ⌜(rdata m c).Finds 4 t Y⌝ ∗ owns (c : Thread nD τ) (st0_4 t) fullShare Y))

/-- and what it returns. -/
def post (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ (∃ X : Vec F S4096x768 .f32, ⌜Done m c t.val X⌝ ∗ owns (c : Thread nD τ) (st0_4 t) fullShare X))

set_option maxHeartbeats 1600000 in
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, after0, after1, after2, after3]
  rw [show (data m 0 c).owesAt () t.succ = (data m 0 c).owesAt () t.castSucc from rfl]
  rw [show (data m 0 c).Φ t.castSucc
      = iprop((∃ d : Vec F S4096x8 .f32, ⌜Routed m c t.val d⌝ ∗ owns (c : Thread nD τ) scratch fullShare d) ∗ ∃ r, prngReg c r) from rfl,
    show (data m 0 c).Φ t.succ
      = iprop((∃ d : Vec F S4096x8 .f32, ⌜Routed m c (t.val + 1) d⌝ ∗ owns (c : Thread nD τ) scratch fullShare d) ∗ ∃ r, prngReg c r) from rfl]
  have hN : t.val < 32 := Nat.lt_of_lt_of_eq t.isLt N_0
  by_cases h0 : t.val < 4
  · iintro ⟨⟨⟨%ds, %hs, HS⟩, Hg⟩, Ho, ⟨%d0, H0⟩, ⟨%d1, H1⟩, ⟨%d2, H2⟩, ⟨%d3, H3⟩, ⟨%Y, %hY, H4⟩⟩
    iapply (run_first c (grid0.coords t) _ _ _ _ _ _ _ _ _ _ _ _ ((first_iff t).mpr h0) ((first_iff' t).mpr h0)
      (fun h => absurd ((later_iff t).mp h) (by omega)) (iblk m c 0 t) (iblk m c 1 t) (iblk m c 2 t) (iblk m c 3 t) Y ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%Xs, %hXs, ⟨%X, %hX, H4⟩, HS⟩⟩
    isplitl [HS Hg]
    · isplitl [HS]
      · iexists Xs; isplitr
        · ipureintro; exact hs.first m h0 (off1 t) hXs
        · iexact HS
      iexact Hg
    isplitl [Ho]; · iexact Ho
    isplitl [H0]; · iexact H0
    isplitl [H1]; · iexact H1
    isplitl [H2]; · iexact H2
    isplitl [H3]; · iexact H3
    iexists X; isplitr
    · ipureintro; exact Done.first m h0 (off3 t) (fun ht => found m c t ht Y hY) hX
    · iexact H4
  · have h4 : 4 ≤ t.val := by omega
    iintro ⟨⟨⟨%ds, %hs, HS⟩, Hg⟩, Ho, ⟨%d0, H0⟩, ⟨%d1, H1⟩, ⟨%d2, H2⟩, ⟨%d3, H3⟩, ⟨%Y, %hY, H4⟩⟩
    iapply (run_later c (grid0.coords t) _ _ _ _ _ _ _ _ _ _ _ _ (fun h => h0 ((first_iff t).mp h)) (fun h => h0 ((first_iff' t).mp h))
      ((later_iff t).mpr h4) (iblk m c 0 t) (iblk m c 1 t) (iblk m c 2 t) (iblk m c 3 t) Y ds Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%X, %hX, H4⟩, HS⟩
    isplitl [HS Hg]
    · isplitl [HS]
      · iexists ds; isplitr
        · ipureintro; exact hs.later m h4
        · iexact HS
      iexact Hg
    isplitl [Ho]; · iexact Ho
    isplitl [H0]; · iexact H0
    isplitl [H1]; · iexact H1
    isplitl [H2]; · iexact H2
    isplitl [H3]; · iexact H3
    iexists X; isplitr
    · ipureintro; exact Done.later m h4 (off4 t) (off2 t) (found m c t (by omega) Y hY) hs hX
    · iexact H4

/-- The body table's row at point `t` is the body as `bodyAt0` spells it. -/
theorem row_eq (t : Fin cfg0.N) : defs₀ (F := F) .tc cfg0.body (cfg0.bodyArgs t (cfg0.slots t)) = bodyAt0 t := by
  unfold defs₀; rw [Defs.onTc_tc]

/-- The body meets the data at every point. -/
theorem obligation (c : Dev nD) : BodyObligationRel (data (F := F) m 0 c) (defs₀ (F := F)) Variants.none () Set.univ held (holds m c) := fun t => by
  rw [bigSep_W0, bigSep_W0, row_eq]
  exact triple_restated (sound m c t) rfl .rfl fun _ => .rfl

end Cert.KernelIdeal.Moe

end
-- ==== Proof.MoeLaunch.lean ====
/- The launch of the mixture-of-experts kernel: every run ends with the arguments unchanged, every semaphore at zero, the
   pipeline's arrays at contents the data allow, and the host lines after the pipeline computed from those. -/
module

public import proofs.«01_k».proof.Proof.MoeOblig

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant at the region's two ends -/

/-- Before the first point nothing is asked of the scratch, -/
theorem enter (c : Dev nD) : (Pipeline.ΦA spec0 c : sProp 𝕄) ⊢ (data m 0 c).Φ 0 := by
  unfold Pipeline.ΦA; rw [scopedRest0_eq]
  show _ ⊢ iprop((∃ d : Vec F S4096x8 .f32, ⌜Routed m c 0 d⌝ ∗ owns (c : Thread nD τ) scratch fullShare d) ∗ ∃ r, prngReg c r)
  simp only [scratch, owns_whole]
  iintro ⟨⟨%d, H⟩, Hg⟩
  isplitl [H]
  · iexists d; isplitr
    · ipureintro; exact fun j _ h => absurd h (Nat.not_lt_zero j)
    · iexact H
  · iexact Hg

/-- and after the last its contents are let go. -/
theorem leave (c : Dev nD) : ((data m 0 c).Φ (Fin.last cfg0.N) : sProp 𝕄) ⊢ Pipeline.ΦA spec0 c := by
  unfold Pipeline.ΦA; rw [scopedRest0_eq]
  show iprop((∃ d : Vec F S4096x8 .f32, ⌜Routed m c _ d⌝ ∗ owns (c : Thread nD τ) scratch fullShare d) ∗ ∃ r, prngReg c r) ⊢ _
  simp only [scratch, owns_whole]
  iintro ⟨⟨%d, -, H⟩, Hg⟩
  isplitl [H]
  · iexists d; iexact H
  · iexact Hg

/-! ## The frame -/

/-- The buffers the lines after the region write. -/
def written : Finset (Ref sig .tc) := {main_cst, main_v2}

theorem tail_writes : ∀ ops ∈ ([hostOps1] : List (List (HloOp τ sig (Elt F)))), ∀ op ∈ ops,
    ∀ b : Ref sig .tc, Proc.devRef .tc b ∈ op.writes → b ∈ written := by
  intro ops hops op hop b hb
  rw [List.mem_singleton] at hops; subst hops
  simp only [hostOps1, List.mem_cons, List.mem_nil_iff, or_false] at hop
  rcases hop with rfl | rfl <;>
    simp only [StableHlo.nullary_writes, StableHlo.unary_writes, StableHlo.reshape_writes, Finset.mem_singleton] at hb <;>
    (cases Proc.devRef_injective _ hb; decide)

set_option backward.isDefEq.respectTransparency.types false in
set_option maxHeartbeats 800000 in
theorem run_frame : θ_run defs (onTc (τ := τ) (main (F := F))) (s₀ m ρ)
    (fun r => Pipeline.RDat.FramePostR (cfgs 0) (rdata m) written (V m) r ∧ r.2.sem = fun _ => 0) :=
  Pipeline.RDat.θ_run_frame_around_T_track (Q' := _) cfgs (0 : Fin 1) launch0 defs₀ Variants.none (rdata m) written m ρ main
    (hbody := fun c => (obligation m c).toRRel) (hshare := fun c => (data m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := data_A m) (hin := enter m) (hout := leave m)

/-- The arguments of @main, unchanged in a final state. -/
def Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem bypassed (b : Ref sig .tc) (hs : b.isScoped = false) (ha : ∀ w, (spec0 w).arr.view.ref ≠ b) (hb : b ∉ written) :
    b ∈ Pipeline.restRefs sig spec0 \ written :=
  Finset.mem_sdiff.mpr ⟨Pipeline.mem_restRefs_of b hs ha, hb⟩

theorem unchanged_of {r : PUnit × MemSt nD τ sig (Elt F)} (h : Pipeline.RDat.FramePostR (cfgs 0) (rdata m) written (V m) r)
    (c : Dev nD) : Unchanged m r c :=
  ⟨((h c).2 main_arg0 (bypassed _ (by decide) (by decide) (by decide))).trans (V_main_arg0 m c),
    (Pipeline.RDat.FramePostR.arr_in h c 1 rfl).trans ((data_A m c 1).trans (V_main_arg1 m c)),
    (Pipeline.RDat.FramePostR.arr_in h c 2 rfl).trans ((data_A m c 2).trans (V_main_arg2 m c)),
    ((h c).2 main_arg3 (bypassed _ (by decide) (by decide) (by decide))).trans (V_main_arg3 m c),
    (Pipeline.RDat.FramePostR.arr_in h c 3 rfl).trans ((data_A m c 3).trans (V_main_arg4 m c)),
    ((h c).2 main_arg5 (bypassed _ (by decide) (by decide) (by decide))).trans (V_main_arg5 m c)⟩

/-- Every run ends with the arguments unchanged and every semaphore at zero. -/
theorem frame : θ_run defs (onTc (τ := τ) (main (F := F))) ⟨m, fun _ => 0, ρ⟩
    (fun r => (∀ c, Unchanged m r c) ∧ r.2.sem = fun _ => 0) :=
  (θ_run defs _ _).mono (fun _ h => ⟨unchanged_of m h.1, h.2⟩) (run_frame m ρ)

/-! ## The lines after the region -/

/-- What the pipeline's arrays may hold when it is done. -/
def Ends (c : Dev nD) (A : (w : Fin cfg0.W) → Buf (Elt F) ((spec0 w).arr.view.loc (c.tc : Thread nD τ))) : Prop :=
  ∀ w, (rdata m c).ArrAt w cfg0.N (A w)

/-- The contents after the lines that follow the region, run from arrays `A`. -/
def tailOf (c : Dev nD) (A : (w : Fin cfg0.W) → Buf (Elt F) ((spec0 w).arr.view.loc (c.tc : Thread nD τ)))
    (b : Ref sig .tc) : Buf (Elt F) ((c.tc : Thread nD τ).loc b) :=
  StableHlo.after (List.flatten [hostOps1]) (Pipeline.withArrays spec0 c (V0 m c) A) (Proc.devRef .tc b)

theorem arrays_split (c : Dev nD) (A : (w : Fin cfg0.W) → Buf (Elt F) ((spec0 w).arr.view.loc (c.tc : Thread nD τ))) :
    (Pipeline.arrBufs spec0 c (fun b => Pipeline.withArrays spec0 c (V0 m c) A (Proc.devRef .tc b)) : sProp 𝕄)
      = bigSep Finset.univ fun w => ((c.tc : Thread nD τ).loc (Pipeline.arrRef spec0 w)) ↦{fullShare} A w := by
  unfold Pipeline.arrBufs
  rw [bigSep_image_of_injOn (launch0.win.arr_inj.injOn)]
  exact bigSep_congr fun w _ => congrArg (fun X => ((c.tc : Thread nD τ).loc (Pipeline.arrRef spec0 w) ↦{fullShare} X : sProp 𝕄))
    (Pipeline.withArrays_arr spec0 launch0.win.arr_inj c (V0 m c) A w)

theorem regain (c : Dev nD) (A : (w : Fin cfg0.W) → Buf (Elt F) ((spec0 w).arr.view.loc (c.tc : Thread nD τ))) (hA : Ends m c A) :
    (bigSep Finset.univ fun w : Fin cfg0.W => (((c.tc : Thread nD τ).loc (Pipeline.arrRef spec0 w)) ↦{fullShare} A w : sProp 𝕄))
      ⊢ bigSep Finset.univ fun w : Fin cfg0.W => iprop(∃ X, ⌜(rdata m c).ArrAt w cfg0.N X⌝
        ∗ (((c.tc : Thread nD τ).loc (Pipeline.arrRef spec0 w)) ↦{fullShare} X : sProp 𝕄)) := by
  refine bigSep_mono fun w _ => ?_
  show (((c.tc : Thread nD τ).loc (Pipeline.arrRef spec0 w)) ↦{fullShare} A w : sProp 𝕄) ⊢ iprop(∃ X, ⌜(rdata m c).ArrAt w cfg0.N X⌝
        ∗ (((c.tc : Thread nD τ).loc (Pipeline.arrRef spec0 w)) ↦{fullShare} X : sProp 𝕄))
  iintro H; iexists (A w); isplitr
  · ipureintro; exact hA w
  · iexact H

set_option backward.isDefEq.respectTransparency.types false in
set_option maxHeartbeats 1600000 in
theorem run_tail : θ_run defs (onTc (τ := τ) (main (F := F))) (s₀ m ρ)
    (fun r => ∀ c, ∃ A, Ends m c A ∧ ∀ b ∈ Pipeline.restRefs sig spec0, r.2.mem ((c.tc : Thread nD τ).loc b) = tailOf m c A b) := by
  refine Pipeline.RDat.θ_run_region_tail cfgs () launch0.cellOf_inj (0 : Fin 1) launch0.win (Pipeline.OwnSemFacts.none spec0) emb₁
    defs₀ Variants.none (rdata m) m ρ main (fun _ => Pipeline.chain ([hostOps1].map StableHlo.seq))
    (fun c => (obligation m c).toRRel) launch0.block_pos launch0.arr_whole launch0.stage_whole
    (fun c => (data m 0 c).share_full fun _ => rfl) (fun _ _ => rfl) (fun _ => iprop(emp))
    (initOf (Pipeline.cells cfgs launch0.cellOf_inj) (Pipeline.launchToks cfgs launch0.cellOf_inj)) ?_ (V m) (hmain m Variants.none) (data_A m)
    (fun c => iprop(∃ r, prngReg c r)) (fun c => iprop(∃ r, prngReg c r))
    (fun c => Pipeline.unscopedRest spec0 c (V m c))
    (fun c => iprop(∃ A, ⌜Ends m c A⌝ ∗ Pipeline.unscopedRest spec0 c (tailOf m c A)))
    ?_ ?_ ?_ ?_
    (fun c s => ∃ A, Ends m c A ∧ ∀ b ∈ Pipeline.restRefs sig spec0, s.mem ((c.tc : Thread nD τ).loc b) = tailOf m c A b) ?_
    (fun s h c => (h c).2)
  · iintro Hu; imodintro
    isplitl [Hu]
    · iapply (show (ownU _ : sProp 𝕄) ⊢ BI.own (emb₁ (initOf (Pipeline.cells cfgs launch0.cellOf_inj)
        (Pipeline.launchToks cfgs launch0.cellOf_inj))) from .rfl)
      iexact Hu
    iapply (show (BI.emp : sProp 𝕄) ⊢ bigSep Finset.univ (fun _ : Dev nD => (BI.emp : sProp 𝕄)) from by rw [bigSep_emp_const])
    iempintro
  · intro c
    iintro ⟨HU, -, -, -, Hp, -⟩; imodintro
    isplitl [Hp]; · iexists _; iexact Hp
    iexact HU
  · intro c
    refine BIBase.Entails.trans ?_ (enter m c)
    unfold Pipeline.ΦA
    iintro ⟨Hp, Hr⟩
    isplitl [Hr] <;> iassumption
  · intro c
    refine (leave m c).trans ?_
    rw [Pipeline.ownSems0_none]; unfold Pipeline.ΦA
    iintro ⟨Hr, Hp⟩
    isplitl [Hp]; · iexact Hp
    isplitr; · iempintro
    iexact Hr
  · intro c Q'
    iintro ⟨Hk, Hb, Ha, HZ⟩
    ihave Ha1 := (bigSep_exists_pi Finset.univ (fun (w : Fin cfg0.W) X => iprop(⌜(rdata m c).ArrAt w cfg0.N X⌝
        ∗ ((c.tc : Thread nD τ).loc (Pipeline.arrRef spec0 w)) ↦{fullShare} X))) $$ Ha
    icases Ha1 with ⟨%A, Ha1⟩
    ihave Ha2 := (bigSep_pure_sep Finset.univ (fun w => (rdata m c).ArrAt w cfg0.N (A w))
        (fun w => (((c.tc : Thread nD τ).loc (Pipeline.arrRef spec0 w)) ↦{fullShare} A w : sProp 𝕄))) $$ Ha1
    icases Ha2 with ⟨%hA, Ha⟩
    have hA' : Ends m c A := fun w => hA w (Finset.mem_univ w)
    iapply (Pipeline.tail_seqs_bufs (fun q => (cfgs q).toPCfg (Val := Elt F)) defs₀ Variants.none Pipeline.Prefetch.none spec0 c (V0 m c) A
      [hostOps1] sfx_sub sfx_fresh sfx_keeps Q')
    rw [Pipeline.unscopedRestP_none, Pipeline.unscopedRestP_none, arrays_split]
    isplitl [Hk]
    · iintro ⟨Ha, Hu⟩
      iapply Hk
      isplitl [Ha]
      · iapply (regain m c A hA'); iexact Ha
      iexists A; isplitr
      · ipureintro; exact hA'
      · iexact Hu
    · isplitl [Hb]; · iexact Hb
      isplitl [Ha]; · iexact Ha
      iexact HZ
  · intro c s'
    iintro ⟨-, ⟨%A, %hA, HZ⟩, HSI⟩
    unfold Pipeline.unscopedRest
    ihave HZ' := (pointsTo_read_all (Pipeline.restRefs sig spec0) (fun b => (c.tc : Thread nD τ).loc b) (tailOf m c A) s') $$ [HZ HSI]
    · isplitl [HZ] <;> iassumption
    icases HZ' with ⟨%hZ, HSI⟩
    imodintro
    isplitr
    · ipureintro; exact ⟨A, hA, hZ⟩
    · iexact HSI

end Cert.KernelIdeal.Moe

end
-- ==== Proof.MoeValue.lean ====
/- What every run of the mixture-of-experts kernel returns: the tiles' sums over the experts, re-shaped, and a zero. -/
module

public import proofs.«01_k».proof.Proof.MoeLaunch
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window BodyObligationRel)

variable {F : FTy → Type} [FloatOps F]

variable (m : (ℓ : Loc nD τ sig) → Buf (Elt F) ℓ) (ρ : Dev nD → PrngReg)

/-- The band a row is in, and its place there. -/
def bandOf (i : (Whole 768).Idx) : ℕ := (i 0).val / 1024

def inBand (i : (Whole 768).Idx) : (Band 768).Idx
  | ⟨0, _⟩ => ⟨(i 0).val % 1024, Nat.mod_lt _ (by decide)⟩
  | ⟨1, _⟩ => ⟨(i 1).val, (i 1).isLt⟩

theorem bandOf_lt (i : (Whole 768).Idx) : bandOf i < 4 := by
  have : (i 0).val < 4096 := (i 0).isLt
  unfold bandOf; omega

theorem place_inBand (i : (Whole 768).Idx) : place (bandOf i) (inBand i) = i := by
  funext a
  apply Fin.ext
  fin_cases a
  · refine (place0 (bandOf_lt i) (inBand i)).trans ?_
    show 1024 * ((i 0).val / 1024) + (i 0).val % 1024 = (i 0).val
    omega
  · rfl

/-- The pipeline's result: row by row its tile's sum over all eight experts. -/
def result (c : Dev nD) : Vec F S4096x768 .f32 := fun i => acc m c (bandOf i) 7 (inBand i)

theorem wholeAt : (cfg0.win 4).WholeAt (pt 31) := by
  refine ⟨(flush0_4 _).mpr rfl, fun t ht => Fin.ext ?_, ?_⟩
  · have h := (flush0_4 t).mp ht
    have hN : t.val < 32 := Nat.lt_of_lt_of_eq t.isLt N_0
    show t.val = 31 % 32
    omega
  · intro a
    fin_cases a <;> exact ⟨rfl, rfl⟩

theorem result_of_ends {c : Dev nD} {A : (w : Fin cfg0.W) → Buf (Elt F) ((spec0 w).arr.view.loc (c.tc : Thread nD τ))}
    (h : Ends m c A) : (A 4 : Vec F S4096x768 .f32) = result m c := by
  obtain ⟨X, hX, hA⟩ := Pipeline.RDat.ArrAt.emb_eq_of_wholeAt (h 4) wholeAt
  have hD : Done m c (pt 31).val X := Dat.toRRel_leaves (data m 0 c) (w := 4) rfl hX
  funext i
  have e : (A 4 : Vec F S4096x768 .f32) i = X i := hA i
  rw [e]
  show X i = acc m c (bandOf i) 7 (inBand i)
  conv_lhs => rw [← place_inBand i]
  have hb := bandOf_lt i
  have e31 : (pt 31).val = 31 := rfl
  refine (hD (bandOf i) hb (by omega) (inBand i)).trans ?_
  rw [show ((pt 31).val - bandOf i) / 4 = 7 by omega]

/-- What @main returns, -/
def output (c : Dev nD) : Vec F S2x2048x768 .f32 := shapeCast S2x2048x768 (result m c) shapeCasts_S4096x768_S2x2048x768

theorem tail_v2 (c : Dev nD) (A) (h : Ends m c A) : tailOf m c A main_v2 = output m c := by
  have e4 : Pipeline.withArrays spec0 c (V0 m c) A (Proc.devRef .tc main_v1) = A 4 :=
    Pipeline.withArrays_arr spec0 launch0.win.arr_inj c (V0 m c) A 4
  unfold tailOf output
  rw [← result_of_ends m h, ← e4]
  rfl

theorem tail_cst (c : Dev nD) (A) : tailOf m c A main_cst = constant S_ .f32 0x00000000#32 := by
  unfold tailOf
  rfl

/-- and every run returns it, the arguments unchanged. -/
theorem run_value : θ_run defs (onTc (τ := τ) (main (F := F))) ⟨m, fun _ => 0, ρ⟩ (fun r => ∀ c : Dev nD,
    r.2.mem ((c.tc : Thread nD τ).loc main_v2) = output m c
    ∧ r.2.mem ((c.tc : Thread nD τ).loc main_cst) = constant S_ .f32 0x00000000#32
    ∧ Unchanged m r c) := by
  refine (θ_run defs _ _).mono ?_ (θ_run_and (frame m ρ) (run_tail m ρ))
  rintro r ⟨h, h'⟩ c
  obtain ⟨A, hA, hr⟩ := h' c
  have hv2 : main_v2 ∈ Pipeline.restRefs sig spec0 := Pipeline.mem_restRefs_of _ (by decide) (by decide)
  have hcst : main_cst ∈ Pipeline.restRefs sig spec0 := Pipeline.mem_restRefs_of _ (by decide) (by decide)
  exact ⟨(hr main_v2 hv2).trans (tail_v2 m c A hA), (hr main_cst hcst).trans (tail_cst m c A), h.1 c⟩

end Cert.KernelIdeal.Moe

end
-- ==== Proof.MoeTop.lean ====
/- The two best of eight scores: found by two maxima, as the kernel finds them, and by a stable descending sort, as
   the reference finds them. -/
module

public import Idealize.ShloMosaic.Lib.SortPrefix
public import Idealize.ShloMosaic.Lib.IdealHost
public import Idealize.ShloMosaic.Lib.Pointwise

@[expose] public section

set_option maxRecDepth 16384

noncomputable section

namespace Cert.Moe

open Idealize.ShloMosaic

/-! ## A stable sort by a key is the sort by the key and then the position -/

section Sorting

variable {n : ℕ} {κ : Type} [DecidableEq κ] (lt : κ → κ → Bool) (key : Fin n → κ)

theorem stableSort_key_position (l : List (Fin n)) (hl : l.Pairwise (· < ·)) :
    stableSort (fun a b => lt (key a) (key b)) l =
      stableSort (fun a b => lt (key a) (key b) || (decide (key a = key b) && decide (a < b))) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    have : ¬ b < a := not_lt.mpr hab.le
    simp [this]

theorem sortedFrom_key_position (i : Fin n) :
    sortedFrom (fun a b => lt (key a) (key b)) i =
      sortedFrom (fun a b => lt (key a) (key b) || (decide (key a = key b) && decide (a < b))) i := by
  have h : sortPositions n (fun a b => lt (key a) (key b)) =
      sortPositions n (fun a b => lt (key a) (key b) || (decide (key a = key b) && decide (a < b))) :=
    stableSort_key_position lt key _ (List.pairwise_lt_finRange n)
  unfold sortedFrom
  simp only [List.get_eq_getElem, Fin.val_cast, h]

end Sorting

/-! ## The first greatest of eight -/

/-- `k` is the first position of the greatest score. -/
structure Top (s : Fin 8 → EReal) (k : Fin 8) : Prop where
  max : ∀ j, s j ≤ s k
  first : ∀ j, j < k → s j < s k

theorem exists_top (s : Fin 8 → EReal) : ∃ k, Top s k := by
  classical
  obtain ⟨k₀, hk₀⟩ := Finite.exists_max s
  have hne : (Finset.univ.filter fun k => ∀ j, s j ≤ s k).Nonempty := ⟨k₀, by simpa using hk₀⟩
  refine ⟨(Finset.univ.filter fun k => ∀ j, s j ≤ s k).min' hne, ?_, ?_⟩
  · exact (Finset.mem_filter.mp (Finset.min'_mem _ hne)).2
  · intro j hj
    have hm := (Finset.mem_filter.mp (Finset.min'_mem _ hne)).2
    refine lt_of_le_of_ne (hm j) fun he => ?_
    have : j ∈ Finset.univ.filter fun k => ∀ j, s j ≤ s k :=
      Finset.mem_filter.mpr ⟨Finset.mem_univ _, fun i => he ▸ hm i⟩
    exact absurd (Finset.min'_le _ _ this) (not_le.mpr hj)

/-- The score of the best expert struck out. -/
def strike (s : Fin 8 → EReal) (k : Fin 8) : Fin 8 → EReal := fun e => if e = k then ⊥ else s e

theorem second_ne {s : Fin 8 → EReal} {k k' : Fin 8} (hs : ∀ e, s e ≠ ⊥) (h' : Top (strike s k) k') : k' ≠ k := by
  intro he
  subst he
  obtain ⟨e, hne⟩ : ∃ e, e ≠ k' := exists_ne k'
  have := h'.max e
  simp only [strike, if_neg hne, if_true, le_bot_iff] at this
  exact hs e this

theorem second_eq {s : Fin 8 → EReal} {k k' : Fin 8} (hs : ∀ e, s e ≠ ⊥) (h' : Top (strike s k) k') :
    strike s k k' = s k' := if_neg (second_ne hs h')

/-- The stable descending sort's first two positions. -/
theorem sorted_pair {s : Fin 8 → EReal} {k k' : Fin 8} (hs : ∀ e, s e ≠ ⊥) (h : Top s k) (h' : Top (strike s k) k')
    (i : Fin 2) : sortedFrom (fun a b => decide (s b < s a)) (i.castLE (by decide : 2 ≤ 8)) = ![k, k'] i := by
  have hne := second_ne hs h'
  have he := second_eq hs h'
  have hmax' : ∀ j, j ≠ k → s j ≤ s k' := fun j hj => by
    have := h'.max j
    rwa [he, strike, if_neg hj] at this
  have hfirst' : ∀ j, j ≠ k → j < k' → s j < s k' := fun j hj hlt => by
    have := h'.first j hlt
    rwa [he, strike, if_neg hj] at this
  rw [sortedFrom_key_position (fun x y : EReal => decide (y < x)) s]
  refine (StrictTotalBefore.of_key_then_position (fun x y : EReal => decide (y < x)) s (fun a => by simp)
    (fun a b c hab hbc => ?_) (fun a b => ?_)).sortedFrom_eq_of_prefix (by decide) ![k, k'] ?_ ?_ ?_ i
  · simp only [decide_eq_true_eq] at hab hbc ⊢; exact hbc.trans hab
  · simp only [decide_eq_true_eq]; rcases lt_trichotomy a b with h | h | h
    · exact Or.inr (Or.inr h)
    · exact Or.inr (Or.inl h)
    · exact Or.inl h
  · intro a b hab
    fin_cases a <;> fin_cases b <;> simp_all [eq_comm]
  · intro a b hab
    have : a = 0 ∧ b = 1 := by revert hab; revert a b; decide
    obtain ⟨rfl, rfl⟩ := this
    simp only [Matrix.cons_val_zero, Matrix.cons_val_one, Bool.or_eq_false_iff, Bool.and_eq_false_iff]
    refine ⟨decide_eq_false (not_lt.mpr (h.max k')), ?_⟩
    by_cases e : s k' = s k
    · exact Or.inr (decide_eq_false fun hlt => absurd e (h.first k' hlt).ne)
    · exact Or.inl (decide_eq_false e)
  · intro a p hp
    have hpk : p ≠ k := fun e => hp 0 e.symm
    have hpk' : p ≠ k' := fun e => hp 1 e.symm
    simp only [Bool.or_eq_false_iff, Bool.and_eq_false_iff, decide_eq_false_iff_not]
    have key : ∀ q, (s p ≤ s q) → (p < q → s p < s q) → ¬ s q < s p ∧ (¬ s p = s q ∨ ¬ p < q) := fun q h1 h2 => by
      refine ⟨not_lt.mpr h1, ?_⟩
      by_cases e : p < q
      · exact Or.inl (h2 e).ne
      · exact Or.inr e
    fin_cases a
    · exact key k (h.max p) (h.first p)
    · exact key k' (hmax' p hpk) (hfirst' p hpk)

/-! ## The kernel's two maxima -/

/-- The greatest score, from minus infinity on. -/
def rowMax (s : Fin 8 → EReal) : EReal := Finset.fold max (Ideal.ofBits FTy.f32 4286578688#32) s Finset.univ

/-- The least of the places that hold the greatest score, as a word. -/
def firstAt (s : Fin 8 → EReal) : BitVec 32 :=
  Finset.fold IntOp.minsi (2147483647#32) (fun e => if s e = rowMax s then BitVec.ofNat 32 e.val else 8#32) Finset.univ

/-- The scores with the best one's place struck out. -/
def dropFirst (s : Fin 8 → EReal) : Fin 8 → EReal := fun e =>
  Scalar.select (IntOp.cmpi CmpIPredicate.eq (BitVec.ofNat 32 e.val) (firstAt s)) (Ideal.ofBits FTy.f32 4286578688#32) (s e)

/-- How much the runner-up counts beside the best. -/
def ratio (s : Fin 8 → EReal) : EReal := Ideal.exp (rowMax (dropFirst s) - rowMax s)

/-- Expert `e`'s weight as the kernel computes it. -/
def laneWeight (s : Fin 8 → EReal) (e : Fin 8) : EReal :=
  Scalar.select (IntOp.cmpi CmpIPredicate.eq (BitVec.ofNat 32 e.val) (firstAt s)) (Ideal.div 1 (1 + ratio s)) 0 +
  Scalar.select (IntOp.cmpi CmpIPredicate.eq (BitVec.ofNat 32 e.val) (firstAt (dropFirst s))) (Ideal.div (ratio s) (1 + ratio s)) 0

theorem minusInf : Ideal.ofBits FTy.f32 4286578688#32 = ⊥ := by
  simp [Ideal.ofBits, Ideal.ieee]

theorem rowMax_of_top {s : Fin 8 → EReal} {k : Fin 8} (h : Top s k) : rowMax s = s k := by
  unfold rowMax
  rw [minusInf]
  apply le_antisymm
  · exact (Finset.fold_max_le _).mpr ⟨bot_le, fun e _ => h.max e⟩
  · exact (Finset.le_fold_max _).mpr (Or.inr ⟨k, Finset.mem_univ _, le_rfl⟩)

theorem least_place : ∀ (b : Fin 8 → Bool) (k : Fin 8), b k = true → (∀ e, e < k → b e = false) →
    Finset.fold IntOp.minsi (2147483647#32) (fun e : Fin 8 => if b e = true then BitVec.ofNat 32 e.val else 8#32) Finset.univ
      = BitVec.ofNat 32 k.val := by
  decide +kernel

theorem firstAt_of_top {s : Fin 8 → EReal} {k : Fin 8} (h : Top s k) : firstAt s = BitVec.ofNat 32 k.val := by
  classical
  have := least_place (fun e => decide (s e = rowMax s)) k (by simp [rowMax_of_top h])
    (fun e he => by simpa [rowMax_of_top h] using (h.first e he).ne)
  simpa [firstAt] using this

theorem cmpi_place (a b : Fin 8) : IntOp.cmpi CmpIPredicate.eq (BitVec.ofNat 32 a.val) (BitVec.ofNat 32 b.val) = if a = b then 1#1 else 0#1 := by
  revert a b; decide

theorem select_place {α : Type} (a b : Fin 8) (x y : α) :
    Scalar.select (IntOp.cmpi CmpIPredicate.eq (BitVec.ofNat 32 a.val) (BitVec.ofNat 32 b.val)) x y = if a = b then x else y := by
  rw [cmpi_place]
  by_cases h : a = b
  · simp [h, Scalar.select]
  · simp [h, Scalar.select]

theorem dropFirst_of_top {s : Fin 8 → EReal} {k : Fin 8} (h : Top s k) : dropFirst s = strike s k := by
  funext e
  rw [dropFirst, firstAt_of_top h, select_place, minusInf, strike]

/-- The weights of the two chosen experts, over all eight. -/
def pairWeight (s : Fin 8 → EReal) (k k' : Fin 8) (e : Fin 8) : EReal :=
  (if e = k then Ideal.div 1 (1 + Ideal.exp (s k' - s k)) else 0) +
  (if e = k' then Ideal.div (Ideal.exp (s k' - s k)) (1 + Ideal.exp (s k' - s k)) else 0)

theorem laneWeight_of_top {s : Fin 8 → EReal} {k k' : Fin 8} (hs : ∀ e, s e ≠ ⊥) (h : Top s k) (h' : Top (strike s k) k')
    (e : Fin 8) : laneWeight s e = pairWeight s k k' e := by
  have hr : ratio s = Ideal.exp (s k' - s k) := by
    rw [ratio, dropFirst_of_top h, rowMax_of_top h, rowMax_of_top h', second_eq hs h']
  rw [laneWeight, pairWeight, hr, dropFirst_of_top h, firstAt_of_top h, firstAt_of_top h', select_place, select_place]

/-! ## The reference's two greatest -/

section TopK

abbrev Scores : Shape := ⟨2, ![4096, 8]⟩
abbrev Pairs : Shape := ⟨2, ![4096, 2]⟩

variable (x : Scores.Idx → EReal) (hsl : Scores.Slices (fun _ => 0) Pairs)

theorem source_of_top (r : Fin 4096) (k k' : Fin 8) (hs : ∀ e, x (ix2 r e) ≠ ⊥) (h : Top (fun e => x (ix2 r e)) k)
    (h' : Top (strike (fun e => x (ix2 r e)) k) k') (a : Fin 2) :
    sortedFrom (fun p q : Fin 8 => FloatOps.cmpfTotal (F := Ideal) (φ := .f32) .gt (x (ix2 r p)) (x (ix2 r q)) == 1#1)
      (a.castLE (by decide : 2 ≤ 8)) = ![k, k'] a := by
  rw [← sorted_pair hs h h' a]
  congr 1
  funext p q
  rw [Ideal.cmpfTotal_def]
  simp only [Ideal.cmp, CmpDirection.ordered]
  cases decide (x (ix2 r q) < x (ix2 r p)) <;> rfl

theorem along_row (r : Fin 4096) (b : Fin 8) (h1 : 1 < Scores.rank) (k : Fin (Scores.size ⟨1, h1⟩)) :
    Shape.Idx.along (s := Scores) (ix2 r b) ⟨1, h1⟩ k = (ix2 r (show Fin 8 from k) : Scores.Idx) := by
  funext a; fin_cases a <;> rfl

theorem cut_pair (r : Fin 4096) (a : Fin 2) :
    (fun b : Fin Scores.rank => (⟨(fun _ => 0 : Fin Scores.rank → ℕ) b + ((ix2 r a : Pairs.Idx) (b.cast hsl.1.symm)).val,
      Nat.lt_of_lt_of_le (Nat.add_lt_add_left ((ix2 r a : Pairs.Idx) _).isLt _) (hsl.2 b)⟩ : Fin (Scores.size b))) =
      (ix2 r (a.castLE (by decide : 2 ≤ 8)) : Scores.Idx) := by
  funext b; fin_cases b <;> exact Fin.ext (Nat.zero_add _)

theorem topK_value (r : Fin 4096) (k k' : Fin 8) (hs : ∀ e, x (ix2 r e) ≠ ⊥) (h : Top (fun e => x (ix2 r e)) k)
    (h' : Top (strike (fun e => x (ix2 r e)) k) k') (a : Fin 2) :
    (Host.topK Pairs 1 (FloatOps.cmpfTotal (F := Ideal) (φ := .f32) .gt) x hsl).1 (ix2 r a) = x (ix2 r (![k, k'] a)) := by
  rw [← source_of_top x r k k' hs h h' a]
  unfold Host.topK extractStridedSlice
  dsimp only
  rw [cut_pair hsl r a]
  unfold Host.sort2
  rw [dif_pos (by decide)]
  dsimp only
  simp only [along_row]
  rfl

theorem topK_place (r : Fin 4096) (k k' : Fin 8) (hs : ∀ e, x (ix2 r e) ≠ ⊥) (h : Top (fun e => x (ix2 r e)) k)
    (h' : Top (strike (fun e => x (ix2 r e)) k) k') (a : Fin 2) :
    (Host.topK Pairs 1 (FloatOps.cmpfTotal (F := Ideal) (φ := .f32) .gt) x hsl).2 (ix2 r a) = BitVec.ofNat 32 (![k, k'] a).val := by
  rw [← source_of_top x r k k' hs h h' a]
  unfold Host.topK extractStridedSlice
  dsimp only
  rw [cut_pair hsl r a]
  unfold Host.sort2
  rw [dif_pos (by decide)]
  dsimp only
  rw [dif_pos (by decide)]
  simp only [along_row]
  rfl

end TopK

end Cert.Moe
-- ==== Proof.MoeSpec.lean ====
/- The mixture of experts on one token, over the extended reals: an expert's output, the weights of the two chosen
   experts as the reference's softmax gives them, and the sum over the experts. -/
module

public import proofs.«01_k».proof.Proof.MoeTop

@[expose] public section

set_option maxRecDepth 16384

noncomputable section

namespace Cert.Moe

open Idealize.ShloMosaic

/-- A token's scores. -/
def scoreAt (x : Fin 768 → EReal) (g : Fin 8 → Fin 768 → EReal) (e : Fin 8) : EReal := ∑ k, x k * g e k

/-- A token's hidden layer in one expert. -/
def hiddenAt (x : Fin 768 → EReal) (w : Fin 2048 → Fin 768 → EReal) (n : Fin 2048) : EReal := ∑ k, x k * w n k

/-- The first half of the hidden layer, -/
def lower (n : Fin 1024) : Fin 2048 := ⟨n.val, by omega⟩
/-- and the second. -/
def upper (n : Fin 1024) : Fin 2048 := ⟨1024 + n.val, by omega⟩

/-- A token's output in one expert. -/
def expertAt (x : Fin 768 → EReal) (w : Fin 2048 → Fin 768 → EReal) (u : Fin 768 → Fin 1024 → EReal) (c : Fin 768) : EReal :=
  ∑ n, (hiddenAt x w (lower n) * Ideal.logistic (hiddenAt x w (lower n)) * hiddenAt x w (upper n)) * u c n

/-- The experts' outputs times their weights, added up in the experts' order. -/
def mix (y w : Fin 8 → EReal) : EReal :=
  y 0 * w 0 + y 1 * w 1 + y 2 * w 2 + y 3 * w 3 + y 4 * w 4 + y 5 * w 5 + y 6 * w 6 + y 7 * w 7

/-! ## The reference's weights -/

/-- The greater of two values, as the softmax takes it. -/
def softMax (v : Fin 2 → EReal) : EReal :=
  max (Ideal.ofBits FTy.f32 4286578688#32) (Finset.fold max (Ideal.ofBits FTy.f32 4286578688#32) v Finset.univ)

def softExp (v : Fin 2 → EReal) (a : Fin 2) : EReal := Ideal.exp (v a - softMax v)

def softProb (v : Fin 2 → EReal) (a : Fin 2) : EReal := Ideal.div (softExp v a) (∑ b, softExp v b)

theorem softMax_of_le {v : Fin 2 → EReal} (h : v 1 ≤ v 0) : softMax v = v 0 := by
  unfold softMax
  rw [minusInf, max_eq_right bot_le]
  apply le_antisymm
  · refine (Finset.fold_max_le _).mpr ⟨bot_le, fun a _ => ?_⟩
    fin_cases a
    · exact le_rfl
    · exact h
  · exact (Finset.le_fold_max _).mpr (Or.inr ⟨0, Finset.mem_univ _, le_rfl⟩)

theorem sub_self_finite {a : EReal} (ht : a ≠ ⊤) (hb : a ≠ ⊥) : a - a = 0 := EReal.sub_self ht hb

theorem exp_zero : Ideal.exp 0 = 1 := by
  rw [← EReal.coe_zero, Ideal.exp_coe, Real.exp_zero, EReal.coe_one]

theorem softExp_of_le {v : Fin 2 → EReal} (h : v 1 ≤ v 0) (ht : v 0 ≠ ⊤) (hb : v 0 ≠ ⊥) (a : Fin 2) :
    softExp v a = ![1, Ideal.exp (v 1 - v 0)] a := by
  unfold softExp
  rw [softMax_of_le h]
  fin_cases a
  · show Ideal.exp (v 0 - v 0) = 1
    rw [EReal.sub_self ht hb, exp_zero]
  · rfl

theorem softProb_of_le {v : Fin 2 → EReal} (h : v 1 ≤ v 0) (ht : v 0 ≠ ⊤) (hb : v 0 ≠ ⊥) (a : Fin 2) :
    softProb v a = ![Ideal.div 1 (1 + Ideal.exp (v 1 - v 0)), Ideal.div (Ideal.exp (v 1 - v 0)) (1 + Ideal.exp (v 1 - v 0))] a := by
  unfold softProb
  rw [Fin.sum_univ_two, softExp_of_le h ht hb, softExp_of_le h ht hb, softExp_of_le h ht hb]
  fin_cases a <;> rfl

/-- Expert `e`'s weight as the reference computes it: the chosen places that name it, their probabilities summed. -/
def pickWeight (idx : Fin 2 → BitVec 32) (p : Fin 2 → EReal) (e : BitVec 32) : EReal :=
  ∑ a, Scalar.select (IntOp.cmpi CmpIPredicate.eq (idx a) e) (p a) 0

theorem pickWeight_of_top {s : Fin 8 → EReal} {k k' : Fin 8} (hb : ∀ e, s e ≠ ⊥) (ht : ∀ e, s e ≠ ⊤) (h : Top s k)
    {v : Fin 2 → EReal} (hv : ∀ a, v a = s (![k, k'] a)) {idx : Fin 2 → BitVec 32}
    (hidx : ∀ a, idx a = BitVec.ofNat 32 (![k, k'] a).val) (e : Fin 8) :
    pickWeight idx (softProb v) (BitVec.ofNat 32 e.val) = pairWeight s k k' e := by
  have v0 : v 0 = s k := hv 0
  have v1 : v 1 = s k' := hv 1
  have hle : v 1 ≤ v 0 := by rw [v0, v1]; exact h.max k'
  unfold pickWeight pairWeight
  rw [Fin.sum_univ_two, hidx, hidx, select_place, select_place, softProb_of_le hle (v0 ▸ ht k) (v0 ▸ hb k),
    softProb_of_le hle (v0 ▸ ht k) (v0 ▸ hb k), v0, v1]
  exact congrArg₂ (· + ·) (if_congr eq_comm rfl rfl) (if_congr eq_comm rfl rfl)

/-- The kernel's pick of its lane, by a sum over the lanes. -/
theorem sum_select_place (w : Fin 8 → EReal) (e : Fin 8) :
    ∑ l : Fin 8, Scalar.select (IntOp.cmpi CmpIPredicate.eq (BitVec.ofNat 32 l.val) (BitVec.ofNat 32 e.val)) (w l) 0 = w e := by
  simp only [select_place]
  rw [Finset.sum_ite_eq' Finset.univ e w, if_pos (Finset.mem_univ _)]

/-! ## Finite scores -/

theorem mul_finite {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem add_finite {a b : EReal} (ha : a ≠ ⊤ ∧ a ≠ ⊥) (hb : b ≠ ⊤ ∧ b ≠ ⊥) : a + b ≠ ⊤ ∧ a + b ≠ ⊥ := by
  lift a to ℝ using ha
  lift b to ℝ using hb
  rw [← EReal.coe_add]
  exact ⟨EReal.coe_ne_top _, EReal.coe_ne_bot _⟩

theorem scoreAt_finite {x : Fin 768 → EReal} {g : Fin 8 → Fin 768 → EReal} (hx : ∀ k, x k ≠ ⊤ ∧ x k ≠ ⊥)
    (hg : ∀ e k, g e k ≠ ⊤ ∧ g e k ≠ ⊥) (e : Fin 8) : scoreAt x g e ≠ ⊤ ∧ scoreAt x g e ≠ ⊥ := by
  unfold scoreAt
  exact Finset.sum_induction _ (fun a : EReal => a ≠ ⊤ ∧ a ≠ ⊥) (fun _ _ => add_finite)
    ⟨EReal.zero_ne_top, EReal.zero_ne_bot⟩ (fun k _ => mul_finite (hx k) (hg e k))

/-- On finite scores the kernel's weight is the reference's. -/
theorem laneWeight_eq_pairWeight {s : Fin 8 → EReal} (hb : ∀ e, s e ≠ ⊥) :
    ∃ k k', Top s k ∧ Top (strike s k) k' ∧ ∀ e, laneWeight s e = pairWeight s k k' e := by
  obtain ⟨k, hk⟩ := exists_top s
  obtain ⟨k', hk'⟩ := exists_top (strike s k)
  exact ⟨k, k', hk, hk', laneWeight_of_top hb hk hk'⟩

end Cert.Moe
-- ==== Proof.MoePay.lean ====
/- The kernel's stored values read at an index over the extended reals, and the blocks it reads as rows and slices of
   the arguments. -/
module

public import proofs.«01_k».proof.Proof.MoeValue
public import proofs.«01_k».proof.Proof.MoeSpec
public import Idealize.ShloMosaic.Lib.Pipeline.ValueKit
public import Idealize.ShloMosaic.Lib.Pointwise
public import Idealize.ShloMosaic.Lib.IdealHost

@[expose] public section

set_option maxRecDepth 16384

noncomputable section

namespace Cert.KernelIdeal.Moe

open Cert.KernelIdeal Cert.KernelIdeal.Gen Cert.Moe
open Idealize.ShloMosaic Idealize.ShloMosaic.TcCoe

/-- The router's payload: each token's lane weights. -/
theorem pay5_apply (x : FVec Ideal S1024x768 .f32) (g : Vec Ideal S8x768 .f32) (r : Fin 1024) (e : Fin 8) :
    k0_pay5 (F := Ideal) x g (ix2 r e) = laneWeight (scoreAt (fun k => x (ix2 r k)) (fun e k => g (ix2 e k))) e := by
  pointwise [k0_pay5]
  rfl

theorem pay3_apply (i : grid0.Coords) (e : Fin 8) (he : (i 0).val = e.val) (x : Vec Ideal S1024x768 .f32)
    (w : Vec Ideal S1024x8 .f32) (a : Vec Ideal S1x2048x768 .f32) (b : Vec Ideal S1x768x1024 .f32) (r : Fin 1024) (c : Fin 768) :
    k0_pay3 (F := Ideal) i x w a b (ix2 r c) =
      expertAt (fun k => x (ix2 r k)) (fun n k => a (ix3 0 n k)) (fun c n => b (ix3 0 c n)) c * w (ix2 r e) := by
  rw [← sum_select_place (fun l => w (ix2 r l)) e]
  pointwise [k0_pay3, k0_pay1]
  rw [he]
  rfl

theorem pay4_apply (i : grid0.Coords) (x : Vec Ideal S1024x768 .f32)
    (w : Vec Ideal S1024x8 .f32) (a : Vec Ideal S1x2048x768 .f32) (b : Vec Ideal S1x768x1024 .f32) (o : Vec Ideal S1024x768 .f32)
    (r : Fin 1024) (c : Fin 768) :
    k0_pay4 (F := Ideal) i x w a b o (ix2 r c) = o (ix2 r c) + k0_pay3 (F := Ideal) i x w a b (ix2 r c) := by
  pointwise [k0_pay4]

variable (m : (ℓ : Loc nD τ sig) → Buf (Elt Ideal) ℓ)

theorem idx : ∀ t : Fin cfg0.N, win0_0.index t = ![(grid0.coords t 1).val, 0] ∧ win0_1.index t = ![0, 0]
    ∧ win0_2.index t = ![(grid0.coords t 0).val, 0, 0] ∧ win0_3.index t = ![(grid0.coords t 0).val, 0, 0] := by
  decide +kernel

theorem iblk0_apply (c : Dev nD) (t : Fin cfg0.N) (r : Fin 1024) (k : Fin 768) (R : Fin 4096)
    (hR : R.val = 1024 * (grid0.coords t 1).val + r.val) :
    (iblk m c 0 t : Vec Ideal S1024x768 .f32) (ix2 r k) = (V m c main_v0 : Vec Ideal S4096x768 .f32) (ix2 R k) := by
  blk_ext [iblk, idx t]

theorem iblk1_apply (c : Dev nD) (t : Fin cfg0.N) (e : Fin 8) (k : Fin 768) :
    (iblk m c 1 t : Vec Ideal S8x768 .f32) (ix2 e k) = (m ((c : Thread nD τ).loc main_arg1) : Vec Ideal S8x768 .f32) (ix2 e k) := by
  rw [← V_main_arg1 m c]
  blk_ext [iblk, idx t]

theorem iblk2_apply (c : Dev nD) (t : Fin cfg0.N) (e : Fin 8) (he : (grid0.coords t 0).val = e.val) (n : Fin 2048) (k : Fin 768) :
    (iblk m c 2 t : Vec Ideal S1x2048x768 .f32) (ix3 0 n k) = (m ((c : Thread nD τ).loc main_arg2) : Vec Ideal S8x2048x768 .f32) (ix3 e n k) := by
  rw [← V_main_arg2 m c]
  blk_ext [iblk, idx t]

theorem iblk3_apply (c : Dev nD) (t : Fin cfg0.N) (e : Fin 8) (he : (grid0.coords t 0).val = e.val) (n : Fin 768) (k : Fin 1024) :
    (iblk m c 3 t : Vec Ideal S1x768x1024 .f32) (ix3 0 n k) = (m ((c : Thread nD τ).loc main_arg4) : Vec Ideal S8x768x1024 .f32) (ix3 e n k) := by
  rw [← V_main_arg4 m c]
  blk_ext [iblk, idx t]

end Cert.KernelIdeal.Moe
-- ==== Proof.MoeRef.lean ====
/- The reference, one expert at a time: its hidden layer, its gate, its output layer and its weight, each as a function
   of plain arrays, read at an index over the extended reals. -/
module

public import proofs.«01_k».proof.Proof.Gen.ReferenceIdeal
public import proofs.«01_k».proof.Proof.MoeSpec
public import Idealize.ShloMosaic.Lib.Pointwise
public import Idealize.ShloMosaic.Lib.IdealHost

@[expose] public section

set_option maxRecDepth 16384

noncomputable section

namespace Cert.ReferenceIdeal.Moe

open Cert.ReferenceIdeal Cert.ReferenceIdeal.Gen Cert.Moe Idealize.ShloMosaic

/-- The scores of every token for every expert. -/
def scores (X : FVec Ideal S4096x768 .f32) (G : FVec Ideal S8x768 .f32) : FVec Ideal S4096x8 .f32 :=
  Host.dotGeneral dot_S4096x768_S768x8_S4096x8_1_0_0_1_n_n none X (transpose S768x8 [1, 0] G transposes_S8x768_S768x8_1_0)

/-- The exponentials of two scores over the greater. -/
def expsOf (v : FVec Ideal S4096x2 .f32) : FVec Ideal S4096x2 .f32 :=
  Host.exp (subf v (broadcastInDim S4096x2 ![0, 1] bcast_S4096x1_S4096x2_0_1 (broadcastInDim S4096x1 ![0] bcast_S4096_S4096x1_0 (maximumf (broadcastInDim S4096 ![] bcast_S_S4096 (constant S_ .f32 0xFF800000#32)) (Host.reduce FloatOps.maximumf v (constant S_ .f32 0xFF800000#32) reducesTo_S4096x2_S4096_d1 h_S_)))))

/-- The exponentials over their sum. -/
def probsOf (z : FVec Ideal S4096x2 .f32) : FVec Ideal S4096x2 .f32 :=
  Host.divf z (broadcastInDim S4096x2 ![0, 1] bcast_S4096x1_S4096x2_0_1 (broadcastInDim S4096x1 ![0] bcast_S4096_S4096x1_0 (Host.reduceAdd z (constant S_ .f32 0x00000000#32) reducesTo_S4096x2_S4096_d1 h_S_)))

/-- An expert's weight for every token: the chosen places that name it, their probabilities summed. -/
def weightOf (e : BitVec 32) (idx : IVec S4096x2 32) (p : FVec Ideal S4096x2 .f32) : FVec Ideal S4096x768 .f32 :=
  broadcastInDim S4096x768 ![0, 1] bcast_S4096x1_S4096x768_0_1 (broadcastInDim S4096x1 ![0] bcast_S4096_S4096x1_0 (Host.reduceAdd (select (cmpi .eq idx (broadcastInDim S4096x2 ![] bcast_S_S4096x2 (constantI S_ 32 e))) p (broadcastInDim S4096x2 ![] bcast_S_S4096x2 (id (constant S_ .f32 0x00000000#32)))) (constant S_ .f32 0x00000000#32) reducesTo_S4096x2_S4096_d1 h_S_))

/-- Expert `e`'s hidden layer. -/
def hiddenOf (e : ℕ) (hw : S8x2048x768.Slices ![e, 0, 0] S1x2048x768) (hb : S8x2048.Slices ![e, 0] S1x2048)
    (X : FVec Ideal S4096x768 .f32) (W : FVec Ideal S8x2048x768 .f32) (B : FVec Ideal S8x2048 .f32) : FVec Ideal S4096x2048 .f32 :=
  addf (Host.dotGeneral dot_S4096x768_S768x2048_S4096x2048_1_0_0_1_n_n none X (transpose S768x2048 [1, 0] (shapeCast _ (extractStridedSlice S1x2048x768 ![e, 0, 0] W hw) shapeCasts_S1x2048x768_S2048x768) transposes_S2048x768_S768x2048_1_0)) (broadcastInDim S4096x2048 ![0, 1] bcast_S1x2048_S4096x2048_0_1 (broadcastInDim S1x2048 ![1] bcast_S2048_S1x2048_1 (shapeCast _ (extractStridedSlice S1x2048 ![e, 0] B hb) shapeCasts_S1x2048_S2048)))

/-- The first half of the hidden layer, its gate. -/
def gateOf (H : FVec Ideal S4096x2048 .f32) : FVec Ideal S4096x1024 .f32 :=
  extractStridedSlice S4096x1024 ![0, 0] H slices_S4096x2048_S4096x1024_0_0

/-- Expert `e`'s output layer on the gated hidden layer. -/
def expertOf (e : ℕ) (hw : S8x768x1024.Slices ![e, 0, 0] S1x768x1024) (hb : S8x768.Slices ![e, 0] S1x768)
    (A : FVec Ideal S4096x1024 .f32) (H : FVec Ideal S4096x2048 .f32) (W : FVec Ideal S8x768x1024 .f32) (B : FVec Ideal S8x768 .f32) :
    FVec Ideal S4096x768 .f32 :=
  addf (Host.dotGeneral dot_S4096x1024_S1024x768_S4096x768_1_0_0_1_n_n none (mulf (mulf A (Host.divf (broadcastInDim S4096x1024 ![] bcast_S_S4096x1024 (constant S_ .f32 0x3F800000#32)) (addf (broadcastInDim S4096x1024 ![] bcast_S_S4096x1024 (constant S_ .f32 0x3F800000#32)) (Host.exp (Host.negf A))))) (extractStridedSlice S4096x1024 ![0, 1024] H slices_S4096x2048_S4096x1024_0_1024)) (transpose S1024x768 [1, 0] (shapeCast _ (extractStridedSlice S1x768x1024 ![e, 0, 0] W hw) shapeCasts_S1x768x1024_S768x1024) transposes_S768x1024_S1024x768_1_0)) (broadcastInDim S4096x768 ![0, 1] bcast_S1x768_S4096x768_0_1 (broadcastInDim S1x768 ![1] bcast_S768_S1x768_1 (shapeCast _ (extractStridedSlice S1x768 ![e, 0] B hb) shapeCasts_S1x768_S768)))

theorem scores_apply (X : FVec Ideal S4096x768 .f32) (G : FVec Ideal S8x768 .f32) (r : Fin 4096) (e : Fin 8) :
    scores X G (ix2 r e) = scoreAt (fun k => X (ix2 r k)) (fun e k => G (ix2 e k)) e := by
  pointwise [scores]
  rfl

theorem expsOf_apply (v : FVec Ideal S4096x2 .f32) (r : Fin 4096) (a : Fin 2) :
    expsOf v (ix2 r a) = softExp (fun a => v (ix2 r a)) a := by
  pointwise [expsOf]
  rfl

theorem probsOf_apply (v : FVec Ideal S4096x2 .f32) (r : Fin 4096) (a : Fin 2) :
    probsOf (expsOf v) (ix2 r a) = softProb (fun a => v (ix2 r a)) a := by
  pointwise [probsOf]
  simp only [expsOf_apply]
  rfl

theorem weightOf_apply (e : BitVec 32) (idx : IVec S4096x2 32) (p : FVec Ideal S4096x2 .f32) (r : Fin 4096) (c : Fin 768) :
    weightOf e idx p (ix2 r c) = pickWeight (fun a => idx (ix2 r a)) (fun a => p (ix2 r a)) e := by
  pointwise [weightOf]
  unfold pickWeight
  refine Finset.sum_congr rfl fun a _ => ?_
  exact congrArg _ Ideal.ofBits_zero_f32

theorem hiddenOf_apply (e : Fin 8) (hw hb) (X W B) (hB : ∀ e n, B (ix2 e n) = 0) (r : Fin 4096) (n : Fin 2048) :
    hiddenOf e.val hw hb X W B (ix2 r n) = hiddenAt (fun k => X (ix2 r k)) (fun n k => W (ix3 e n k)) n := by
  pointwise [hiddenOf]
  rw [hB, add_zero]
  rfl

theorem gateOf_apply (H) (r : Fin 4096) (n : Fin 1024) : gateOf H (ix2 r n) = H (ix2 r (lower n)) := by
  pointwise [gateOf]
  rfl

theorem expertOf_apply (e : Fin 8) (hw hb) (H W B) (hB : ∀ e c, B (ix2 e c) = 0) (r : Fin 4096) (c : Fin 768) :
    expertOf e.val hw hb (gateOf H) H W B (ix2 r c) =
      ∑ n : Fin 1024, (H (ix2 r (lower n)) * Ideal.logistic (H (ix2 r (lower n))) * H (ix2 r (upper n))) * W (ix3 e c n) := by
  pointwise [expertOf]
  rw [hB, add_zero]
  simp only [gateOf_apply]
  rfl

/-- One expert's share of the result. -/
def shareOf (e : ℕ) (hw : S8x2048x768.Slices ![e, 0, 0] S1x2048x768) (hb : S8x2048.Slices ![e, 0] S1x2048)
    (hw' : S8x768x1024.Slices ![e, 0, 0] S1x768x1024) (hb' : S8x768.Slices ![e, 0] S1x768)
    (X : FVec Ideal S4096x768 .f32) (idx : IVec S4096x2 32) (p : FVec Ideal S4096x2 .f32)
    (W : FVec Ideal S8x2048x768 .f32) (B : FVec Ideal S8x2048 .f32) (U : FVec Ideal S8x768x1024 .f32) (D : FVec Ideal S8x768 .f32) :
    FVec Ideal S4096x768 .f32 :=
  mulf (weightOf (BitVec.ofNat 32 e) idx p)
    (expertOf e hw' hb' (gateOf (hiddenOf e hw hb X W B)) (hiddenOf e hw hb X W B) U D)

theorem shareOf_apply (e : Fin 8) (hw hb hw' hb') (X idx p W B U D) (hB : ∀ e n, B (ix2 e n) = 0) (hD : ∀ e c, D (ix2 e c) = 0)
    (r : Fin 4096) (c : Fin 768) :
    shareOf e.val hw hb hw' hb' X idx p W B U D (ix2 r c) =
      expertAt (fun k => X (ix2 r k)) (fun n k => W (ix3 e n k)) (fun c n => U (ix3 e c n)) c *
        pickWeight (fun a => idx (ix2 r a)) (fun a => p (ix2 r a)) (BitVec.ofNat 32 e.val) := by
  unfold shareOf
  show weightOf _ idx p (ix2 r c) * expertOf e.val hw' hb' _ _ U D (ix2 r c) = _
  rw [weightOf_apply, expertOf_apply e hw' hb' _ U D hD, mul_comm]
  simp only [hiddenOf_apply e hw hb X W B hB]
  rfl

/-- The whole result, token by token. -/
def total (X : FVec Ideal S4096x768 .f32) (G : FVec Ideal S8x768 .f32)
    (W : FVec Ideal S8x2048x768 .f32) (B : FVec Ideal S8x2048 .f32) (U : FVec Ideal S8x768x1024 .f32) (D : FVec Ideal S8x768 .f32) :
    FVec Ideal S4096x768 .f32 :=
  let t := Host.topK S4096x2 1 (FloatOps.cmpfTotal .gt) (scores X G) sliceFits_S4096x8_S4096x2
  let p := probsOf (expsOf t.1)
  addf (addf (addf (addf (addf (addf (addf (addf (broadcastInDim S4096x768 ![] bcast_S_S4096x768 (constant S_ .f32 0x00000000#32))
    (shareOf 0 slices_S8x2048x768_S1x2048x768_0_0_0 slices_S8x2048_S1x2048_0_0 slices_S8x768x1024_S1x768x1024_0_0_0 slices_S8x768_S1x768_0_0 X t.2 p W B U D))
    (shareOf 1 slices_S8x2048x768_S1x2048x768_1_0_0 slices_S8x2048_S1x2048_1_0 slices_S8x768x1024_S1x768x1024_1_0_0 slices_S8x768_S1x768_1_0 X t.2 p W B U D))
    (shareOf 2 slices_S8x2048x768_S1x2048x768_2_0_0 slices_S8x2048_S1x2048_2_0 slices_S8x768x1024_S1x768x1024_2_0_0 slices_S8x768_S1x768_2_0 X t.2 p W B U D))
    (shareOf 3 slices_S8x2048x768_S1x2048x768_3_0_0 slices_S8x2048_S1x2048_3_0 slices_S8x768x1024_S1x768x1024_3_0_0 slices_S8x768_S1x768_3_0 X t.2 p W B U D))
    (shareOf 4 slices_S8x2048x768_S1x2048x768_4_0_0 slices_S8x2048_S1x2048_4_0 slices_S8x768x1024_S1x768x1024_4_0_0 slices_S8x768_S1x768_4_0 X t.2 p W B U D))
    (shareOf 5 slices_S8x2048x768_S1x2048x768_5_0_0 slices_S8x2048_S1x2048_5_0 slices_S8x768x1024_S1x768x1024_5_0_0 slices_S8x768_S1x768_5_0 X t.2 p W B U D))
    (shareOf 6 slices_S8x2048x768_S1x2048x768_6_0_0 slices_S8x2048_S1x2048_6_0 slices_S8x768x1024_S1x768x1024_6_0_0 slices_S8x768_S1x768_6_0 X t.2 p W B U D))
    (shareOf 7 slices_S8x2048x768_S1x2048x768_7_0_0 slices_S8x2048_S1x2048_7_0 slices_S8x768x1024_S1x768x1024_7_0_0 slices_S8x768_S1x768_7_0 X t.2 p W B U D)

theorem sum_eight {z a0 a1 a2 a3 a4 a5 a6 a7 b0 b1 b2 b3 b4 b5 b6 b7 : EReal} (hz : z = 0) (h0 : a0 = b0) (h1 : a1 = b1)
    (h2 : a2 = b2) (h3 : a3 = b3) (h4 : a4 = b4) (h5 : a5 = b5) (h6 : a6 = b6) (h7 : a7 = b7) :
    z + a0 + a1 + a2 + a3 + a4 + a5 + a6 + a7 = b0 + b1 + b2 + b3 + b4 + b5 + b6 + b7 := by
  rw [hz, zero_add, h0, h1, h2, h3, h4, h5, h6, h7]

theorem total_apply (X G W B U D) (hX : ∀ r k, X (ix2 r k) ≠ ⊤ ∧ X (ix2 r k) ≠ ⊥) (hG : ∀ e k, G (ix2 e k) ≠ ⊤ ∧ G (ix2 e k) ≠ ⊥)
    (hB : ∀ e n, B (ix2 e n) = 0) (hD : ∀ e c, D (ix2 e c) = 0) (r : Fin 4096) (c : Fin 768) :
    total X G W B U D (ix2 r c) =
      mix (fun e => expertAt (fun k => X (ix2 r k)) (fun n k => W (ix3 e n k)) (fun c n => U (ix3 e c n)) c)
        (laneWeight (scoreAt (fun k => X (ix2 r k)) (fun e k => G (ix2 e k)))) := by
  have hs : ∀ e, scores X G (ix2 r e) ≠ ⊤ ∧ scores X G (ix2 r e) ≠ ⊥ := fun e => by
    rw [scores_apply]; exact scoreAt_finite (hX r) hG e
  have hsc : (fun e => scores X G (ix2 r e)) = scoreAt (fun k => X (ix2 r k)) (fun e k => G (ix2 e k)) :=
    funext fun e => scores_apply X G r e
  obtain ⟨k, k', hk, hk', hw⟩ := laneWeight_eq_pairWeight (s := fun e => scores X G (ix2 r e)) fun e => (hs e).2
  rw [← hsc]
  have hp : ∀ e : Fin 8, pickWeight (fun a => (Host.topK S4096x2 1 (FloatOps.cmpfTotal .gt) (scores X G) sliceFits_S4096x8_S4096x2).2 (ix2 r a))
      (fun a => probsOf (expsOf (Host.topK S4096x2 1 (FloatOps.cmpfTotal .gt) (scores X G) sliceFits_S4096x8_S4096x2).1) (ix2 r a)) (BitVec.ofNat 32 e.val)
        = laneWeight (fun e => scores X G (ix2 r e)) e := fun e => by
    rw [hw]
    simp only [probsOf_apply]
    exact pickWeight_of_top (s := fun e => scores X G (ix2 r e)) (fun e => (hs e).2) (fun e => (hs e).1) hk
      (fun a => topK_value (scores X G) _ r k k' (fun e => (hs e).2) hk hk' a)
      (fun a => topK_place (scores X G) _ r k k' (fun e => (hs e).2) hk hk' a) e
  have hsh := fun (e : Fin 8) hw1 hb1 hw2 hb2 => (shareOf_apply e hw1 hb1 hw2 hb2 X _ _ W B U D hB hD r c).trans (congrArg _ (hp e))
  exact sum_eight Ideal.ofBits_zero_f32 (hsh 0 _ _ _ _) (hsh 1 _ _ _ _) (hsh 2 _ _ _ _) (hsh 3 _ _ _ _) (hsh 4 _ _ _ _)
    (hsh 5 _ _ _ _) (hsh 6 _ _ _ _) (hsh 7 _ _ _ _)

end Cert.ReferenceIdeal.Moe
-- ==== Proof.MoeEqual.lean ====
/- The kernel's result is the reference's: both are, token by token, the experts' outputs times their weights, added up
   in the experts' order. -/
module

public import proofs.«01_k».proof.Proof.MoePay
public import proofs.«01_k».proof.Proof.MoeRef

@[expose] public section

set_option maxRecDepth 16384

noncomputable section

namespace Cert.KernelIdeal.Moe

open Cert.KernelIdeal Cert.KernelIdeal.Gen Cert.Moe
open Idealize.ShloMosaic Idealize.ShloMosaic.TcCoe

variable (m : (ℓ : Loc nD τ sig) → Buf (Elt Ideal) ℓ)

/-- The tokens as rows. -/
def rows (c : Dev nD) : Vec Ideal S4096x768 .f32 :=
  shapeCast S4096x768 (m ((c : Thread nD τ).loc main_arg0) : Vec Ideal S2x2048x768 .f32) shapeCasts_S2x2048x768_S4096x768

theorem V_main_v0 (c : Dev nD) : (V m c main_v0 : Vec Ideal S4096x768 .f32) = rows m c := by
  unfold rows
  entry_read
  rfl

/-- A token's row, -/
def token (c : Dev nD) (R : Fin 4096) : Fin 768 → EReal := fun k => rows m c (ix2 R k)
/-- the router's weights, -/
def gate (c : Dev nD) : Fin 8 → Fin 768 → EReal := fun e k => (m ((c : Thread nD τ).loc main_arg1) : Vec Ideal S8x768 .f32) (ix2 e k)
/-- an expert's hidden layer -/
def inner (c : Dev nD) (e : Fin 8) : Fin 2048 → Fin 768 → EReal :=
  fun n k => (m ((c : Thread nD τ).loc main_arg2) : Vec Ideal S8x2048x768 .f32) (ix3 e n k)
/-- and its output layer. -/
def outer (c : Dev nD) (e : Fin 8) : Fin 768 → Fin 1024 → EReal :=
  fun o n => (m ((c : Thread nD τ).loc main_arg4) : Vec Ideal S8x768x1024 .f32) (ix3 e o n)

theorem coords_pt (j : ℕ) (hj : j < 4) (e : Fin 8) :
    (grid0.coords (pt (4 * e.val + j)) 0).val = e.val ∧ (grid0.coords (pt (4 * e.val + j)) 1).val = j := by
  have h : (pt (4 * e.val + j)).val = 4 * e.val + j := Nat.mod_eq_of_lt (by omega)
  rw [coord0, coord1, h]
  omega

theorem row_read (c : Dev nD) (j : ℕ) (hj : j < 4) (e : Fin 8) (r : Fin 1024) (R : Fin 4096) (hR : R.val = 1024 * j + r.val) :
    (fun k => (iblk m c 0 (pt (4 * e.val + j)) : Vec Ideal S1024x768 .f32) (ix2 r k)) = token m c R := by
  funext k
  rw [iblk0_apply m c (pt (4 * e.val + j)) r k R (by rw [(coords_pt j hj e).2]; exact hR), V_main_v0]
  rfl

theorem weights_apply (c : Dev nD) (j : ℕ) (hj : j < 4) (r : Fin 1024) (R : Fin 4096) (hR : R.val = 1024 * j + r.val) (e : Fin 8) :
    weights m c (pt j) (ix2 r e) = laneWeight (scoreAt (token m c R) (gate m c)) e := by
  have hx := row_read m c j hj 0 r R hR
  rw [show 4 * (0 : Fin 8).val + j = j by simp] at hx
  have hg : (fun e k => (iblk m c 1 (pt j) : Vec Ideal S8x768 .f32) (ix2 e k)) = gate m c := by
    funext e k; exact iblk1_apply m c (pt j) e k
  unfold weights
  rw [show ∀ (v : FVec Ideal S1024x8 .f32), k0_pay2 (F := Ideal) v = v from fun v => by unfold k0_pay2; exact shapeCast_self _ _,
    show ∀ (v : FVec Ideal S1024x768 .f32), k0_pay1 (F := Ideal) v = v from fun v => by unfold k0_pay1; exact shapeCast_self _ _,
    pay5_apply, hx, hg]

theorem share_apply (c : Dev nD) (j : ℕ) (hj : j < 4) (r : Fin 1024) (R : Fin 4096) (hR : R.val = 1024 * j + r.val) (o : Fin 768) (e : Fin 8) :
    k0_pay3 (F := Ideal) (grid0.coords (pt (4 * e.val + j))) (iblk m c 0 (pt (4 * e.val + j))) (weights m c (pt j))
      (iblk m c 2 (pt (4 * e.val + j))) (iblk m c 3 (pt (4 * e.val + j))) (ix2 r o) =
    expertAt (token m c R) (inner m c e) (outer m c e) o * laneWeight (scoreAt (token m c R) (gate m c)) e := by
  have he := (coords_pt j hj e).1
  have h2 : (fun n k => (iblk m c 2 (pt (4 * e.val + j)) : Vec Ideal S1x2048x768 .f32) (ix3 0 n k)) = inner m c e := by
    funext n k; exact iblk2_apply m c _ e he n k
  have h3 : (fun n k => (iblk m c 3 (pt (4 * e.val + j)) : Vec Ideal S1x768x1024 .f32) (ix3 0 n k)) = outer m c e := by
    funext n k; exact iblk3_apply m c _ e he n k
  rw [pay3_apply _ e he, row_read m c j hj e r R hR, h2, h3, weights_apply m c j hj r R hR e]

theorem acc_first (c : Dev nD) (j : ℕ) (hj : j < 4) (r : Fin 1024) (R : Fin 4096) (hR : R.val = 1024 * j + r.val) (o : Fin 768) :
    acc m c j 0 (ix2 r o) = expertAt (token m c R) (inner m c 0) (outer m c 0) o * laneWeight (scoreAt (token m c R) (gate m c)) 0 := by
  have h := share_apply m c j hj r R hR o 0
  rw [show 4 * (0 : Fin 8).val + j = j by simp] at h
  exact h

theorem acc_next (c : Dev nD) (j : ℕ) (hj : j < 4) (r : Fin 1024) (R : Fin 4096) (hR : R.val = 1024 * j + r.val) (o : Fin 768)
    (e : Fin 8) (n : ℕ) (he : e.val = n + 1) :
    acc m c j (n + 1) (ix2 r o) = (acc m c j n (ix2 r o) : EReal) +
      expertAt (token m c R) (inner m c e) (outer m c e) o * laneWeight (scoreAt (token m c R) (gate m c)) e := by
  have h := share_apply m c j hj r R hR o e
  rw [he] at h
  rw [acc, pay4_apply, h]

theorem acc_apply (c : Dev nD) (j : ℕ) (hj : j < 4) (r : Fin 1024) (R : Fin 4096) (hR : R.val = 1024 * j + r.val) (o : Fin 768) :
    acc m c j 7 (ix2 r o) =
      mix (fun e => expertAt (token m c R) (inner m c e) (outer m c e) o) (laneWeight (scoreAt (token m c R) (gate m c))) := by
  unfold mix
  rw [acc_next m c j hj r R hR o 7 6 rfl, acc_next m c j hj r R hR o 6 5 rfl, acc_next m c j hj r R hR o 5 4 rfl,
    acc_next m c j hj r R hR o 4 3 rfl, acc_next m c j hj r R hR o 3 2 rfl, acc_next m c j hj r R hR o 2 1 rfl,
    acc_next m c j hj r R hR o 1 0 rfl, acc_first m c j hj r R hR o]

theorem result_apply (c : Dev nD) (R : Fin 4096) (o : Fin 768) :
    result m c (ix2 R o) =
      mix (fun e => expertAt (token m c R) (inner m c e) (outer m c e) o) (laneWeight (scoreAt (token m c R) (gate m c))) := by
  have hb := bandOf_lt (ix2 R o)
  refine Eq.trans ?_ (acc_apply m c (R.val / 1024) (by omega) ⟨R.val % 1024, Nat.mod_lt _ (by decide)⟩ R (by simp only; omega) o)
  show acc m c _ 7 _ = _
  congr 1
  funext a; fin_cases a <;> rfl

/-- On finite tokens and router weights, and zero biases, the two results are one array. -/
theorem result_eq (c : Dev nD) (x : FVec Ideal S2x2048x768 .f32) (g : FVec Ideal S8x768 .f32)
    (B : FVec Ideal ReferenceIdeal.S8x2048 .f32) (D : FVec Ideal ReferenceIdeal.S8x768 .f32)
    (ex : x = m ((c : Thread nD τ).loc main_arg0)) (eg : g = m ((c : Thread nD τ).loc main_arg1))
    (hX : ∀ i, x i ≠ ⊤ ∧ x i ≠ ⊥) (hG : ∀ i, g i ≠ ⊤ ∧ g i ≠ ⊥) (hB : ∀ i, B i = 0) (hD : ∀ i, D i = 0) :
    result m c = ReferenceIdeal.Moe.total (shapeCast S4096x768 x shapeCasts_S2x2048x768_S4096x768) g (m ((c : Thread nD τ).loc main_arg2)) B
      (m ((c : Thread nD τ).loc main_arg4)) D := by
  funext i
  obtain ⟨R, o, rfl⟩ : ∃ R o, i = ix2 R o := ⟨i 0, i 1, by funext a; fin_cases a <;> rfl⟩
  rw [result_apply, ReferenceIdeal.Moe.total_apply _ _ _ _ _ _ (fun r k => hX _) (fun e k => hG _) (fun e n => hB _) (fun e o => hD _) R o]
  subst ex eg
  rfl

end Cert.KernelIdeal.Moe
-- ==== Proof.MoePre.lean ====
/- The precondition read back: the tokens and the router's weights are finite, the biases are zero. -/
module

public import proofs.«01_k».proof.Pre_zero_bias_finite_scores
public import Idealize.ShloMosaic.Lib.ReduceAll
public import Idealize.ShloMosaic.PureOps.Ideal
public import Idealize.ShloMosaic.Lib.IdealHost

@[expose] public section

set_option maxRecDepth 16384

noncomputable section

namespace Cert.Pre_zero_bias_finite_scores

open Idealize.ShloMosaic

instance facts : Facts where
  bcast_S_S2x2048x768 := by decide
  reducesTo_S2x2048x768_S_d0_1_2 := by decide
  h_S_ := by decide
  bcast_S_S8x768 := by decide
  reducesTo_S8x768_S_d0_1 := by decide
  bcast_S_S8x2048 := by decide
  reducesTo_S8x2048_S_d0_1 := by decide

theorem infinity : Ideal.ofBits FTy.f32 0x7F800000#32 = ⊤ := by
  simp [Ideal.ofBits, Ideal.ieee]

theorem ofBool_eq_one {b : Bool} (h : BitVec.ofBool b = 1#1) : b = true := by
  cases b
  · exact absurd h (by decide)
  · rfl

theorem finite_of_abs {a : EReal} (h : max a (-a) < ⊤) : a ≠ ⊤ ∧ a ≠ ⊥ := by
  constructor
  · rintro rfl
    simp at h
  · rintro rfl
    simp at h

theorem finite_of_olt {s : Shape} {x : FVec Ideal s .f32} {hb : S_.BroadcastsInDim s (![] : Fin 0 → Fin s.rank)} {i : s.Idx}
    (h : cmpf .olt (Host.absf x) (broadcastInDim s ![] hb (constant (F := Ideal) S_ .f32 0x7F800000#32)) i = 1#1) :
    x i ≠ ⊤ ∧ x i ≠ ⊥ := by
  have h' : BitVec.ofBool (decide (max (x i) (-(x i)) < Ideal.ofBits FTy.f32 0x7F800000#32)) = 1#1 := h
  rw [infinity] at h'
  exact finite_of_abs (of_decide_eq_true (ofBool_eq_one h'))

theorem zero_of_oeq {s : Shape} {x : FVec Ideal s .f32} {hb : S_.BroadcastsInDim s (![] : Fin 0 → Fin s.rank)} {i : s.Idx}
    (h : cmpf .oeq x (broadcastInDim s ![] hb (constant (F := Ideal) S_ .f32 0x00000000#32)) i = 1#1) : x i = 0 := by
  have h' : BitVec.ofBool (decide (x i = Ideal.ofBits FTy.f32 0x00000000#32)) = 1#1 := h
  rw [Ideal.ofBits_zero_f32] at h'
  exact of_decide_eq_true (ofBool_eq_one h')

instance : Subsingleton S_.Idx := ⟨fun a b => funext fun k => k.elim0⟩

theorem read {x : FVec Ideal S2x2048x768 .f32} {g : FVec Ideal S8x768 .f32} {w1 : FVec Ideal S8x2048x768 .f32}
    {b1 : FVec Ideal S8x2048 .f32} {w2 : FVec Ideal S8x768x1024 .f32} {b2 : FVec Ideal S8x768 .f32}
    (h : fn (F := Ideal) x g w1 b1 w2 b2 = fun _ => 1#1) :
    (∀ i, x i ≠ ⊤ ∧ x i ≠ ⊥) ∧ (∀ i, g i ≠ ⊤ ∧ g i ≠ ⊥) ∧ (∀ i, b1 i = 0) ∧ (∀ i, b2 i = 0) := by
  have h0 := congrFun h (Shape.Idx.first Facts.h_S_)
  obtain ⟨h012, hd⟩ := IntOp.andi_eq_one.1 h0
  obtain ⟨h01, hc⟩ := IntOp.andi_eq_one.1 h012
  obtain ⟨ha, hb⟩ := IntOp.andi_eq_one.1 h01
  exact ⟨fun i => finite_of_olt (Host.reduce_andi_all _ _ _ _ _ ha i), fun i => finite_of_olt (Host.reduce_andi_all _ _ _ _ _ hb i),
    fun i => zero_of_oeq (Host.reduce_andi_all _ _ _ _ _ hc i), fun i => zero_of_oeq (Host.reduce_andi_all _ _ _ _ _ hd i)⟩

end Cert.Pre_zero_bias_finite_scores
-- ==== Proof.MoeRefRun.lean ====
/- What every run of the reference returns, as the plain-array function of its arguments. -/
module

public import proofs.«01_k».proof.Proof.Gen.ReferenceIdeal.Run
public import proofs.«01_k».proof.Proof.MoeRef
public import Idealize.ShloMosaic.Lib.Quiescent

@[expose] public section

set_option maxRecDepth 16384

noncomputable section

namespace Cert.ReferenceIdeal.Moe

open Cert.ReferenceIdeal Cert.ReferenceIdeal.Gen Cert.ReferenceIdeal.Value
open Idealize.ShloMosaic Idealize.ShloMosaic.TcCoe Idealize.ShloMosaic.StableHlo Idealize.SL.Sem

variable (m : (ℓ : Loc nD τ sig) → Buf (Elt Ideal) ℓ) (ρ : Dev nD → PrngReg)

/-- The reference's result on a core. -/
def output (c : Dev nD) : FVec Ideal S2x2048x768 .f32 :=
  shapeCast S2x2048x768
    (total (shapeCast S4096x768 (m ((c.tc : Thread nD τ).loc main_arg0) : FVec Ideal S2x2048x768 .f32) shapeCasts_S2x2048x768_S4096x768)
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)))
    shapeCasts_S4096x768_S2x2048x768

/-- The arguments of a core after a run are those before it. -/
def Unchanged (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem run_value : θ_run defs (onTc (τ := τ) (main (F := Ideal))) ⟨m, fun _ => 0, ρ⟩ fun r => ∀ c : Dev nD,
    r.2.mem ((c.tc : Thread nD τ).loc main_v255) = output m c
    ∧ r.2.mem ((c.tc : Thread nD τ).loc main_cst_26) = constant (F := Ideal) S_ .f32 0x00000000#32
    ∧ Unchanged m r c := by
  refine (θ_run defs _ _).mono (fun r h c => ?_) (run m ρ)
  refine ⟨(h c).1.trans ?_, (h c).2⟩
  rfl

end Cert.ReferenceIdeal.Moe
-- ==== Proof.lean ====
/- The claims about the mixture-of-experts layer, put together: the kernel's frame is Proof/KernelLaunch.lean's, the
   idealized kernel's and the reference's runs are Proof/MoeValue.lean's and Proof/MoeRefRun.lean's, and that their
   results are equal is Proof/MoeEqual.lean's. -/
module

public import proofs.«01_k».proof.Defs
public import proofs.«01_k».proof.Proof.Gen.Kernel
public import proofs.«01_k».proof.Proof.KernelLaunch
public import proofs.«01_k».proof.Proof.MoeValue
public import proofs.«01_k».proof.Proof.MoeEqual
public import proofs.«01_k».proof.Proof.MoePre
public import proofs.«01_k».proof.Proof.MoeRefRun

@[expose] public section

noncomputable section

namespace Cert.Proof

open Idealize.ShloMosaic Idealize.SL.Sem

theorem kernel_frame : quiescent_Kernel := fun m g _ => Cert.Kernel.Moe.frame m g

theorem ideal_frame : quiescent_KernelIdeal := fun m g _ => Cert.KernelIdeal.Moe.frame m g

theorem reference_frame : quiescent_ReferenceIdeal := fun m g _ =>
  (θ_run _ _ _).mono (fun r h => ⟨fun c => (h c).2.2, sem_eq_zero_of_no_sems (by decide) r.2⟩)
    (Cert.ReferenceIdeal.Moe.run_value m g)

theorem results_equal : algebraic_KernelIdeal_ReferenceIdeal_pre_zero_bias_finite_scores := by
  intro m g m' g' hpre hagree
  have hv : ∀ c, Cert.ReferenceIdeal.Moe.output m' c = Cert.KernelIdeal.Moe.output m c := fun c => by
    obtain ⟨hx, hg, hb1, hb2⟩ := Cert.Pre_zero_bias_finite_scores.read (hpre c)
    obtain ⟨e0, e1, e2, e3, e4, e5⟩ := hagree c
    unfold Cert.ReferenceIdeal.Moe.output Cert.KernelIdeal.Moe.output
    rw [e0, e1, e2, e3, e4, e5]
    rw [Cert.KernelIdeal.Moe.result_eq m c _ _ _ _ rfl rfl hx hg hb1 hb2]
  refine ⟨fun c => Cert.KernelIdeal.Moe.output m c, fun c => constant (F := Ideal) Cert.KernelIdeal.S_ .f32 0x00000000#32,
    Cert.KernelIdeal.Moe.run_value m g, ?_⟩
  refine (θ_run _ _ _).mono (fun r h c => ?_) (Cert.ReferenceIdeal.Moe.run_value m' g')
  exact ⟨(h c).1.trans (hv c), (h c).2⟩

theorem claim : Cert.Claim := ⟨Cert.Kernel.Gen.facts, Cert.KernelIdeal.Gen.facts, Cert.ReferenceIdeal.Gen.facts,
  Cert.Pre_zero_bias_finite_scores.facts, kernel_frame, ideal_frame, fun m g _ => ideal_frame m g trivial,
  reference_frame, fun m g _ => reference_frame m g trivial, trivial, results_equal⟩

end Cert.Proof

end
